-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_dy_is_bf16 [hPre_dy_is_bf16 : Cert.Pre_dy_is_bf16.Facts] (m : (ℓ : Loc Cert.KernelIdeal.nD Cert.KernelIdeal.τ Cert.KernelIdeal.sig) → Buf (Elt Ideal) ℓ) : Prop :=
  ∀ c : Dev Cert.KernelIdeal.nD,
    (Cert.Pre_dy_is_bf16.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dy_is_bf16 [hPre_dy_is_bf16 : Cert.Pre_dy_is_bf16.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dy_is_bf16.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_dy_is_bf16 [hKernelIdeal : Cert.KernelIdeal.Facts] [hPre_dy_is_bf16 : Cert.Pre_dy_is_bf16.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_dy_is_bf16 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_dy_is_bf16 [hReferenceIdeal : Cert.ReferenceIdeal.Facts] [hPre_dy_is_bf16 : Cert.Pre_dy_is_bf16.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dy_is_bf16 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_dy_is_bf16 [hKernelIdeal : Cert.KernelIdeal.Facts] [hReferenceIdeal : Cert.ReferenceIdeal.Facts] [hPre_dy_is_bf16 : Cert.Pre_dy_is_bf16.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_dy_is_bf16 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44_0) = v0 c
          ∧ r.2.mem ((c.tc : Thread Cert.ReferenceIdeal.nD Cert.ReferenceIdeal.τ).loc Cert.ReferenceIdeal.main_v44_1) = v1 c
          ∧ r.2.mem ((c.tc : Thread Cert.ReferenceIdeal.nD Cert.ReferenceIdeal.τ).loc Cert.ReferenceIdeal.main_v44_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_dy_is_bf16 : Cert.Pre_dy_is_bf16.Facts),
    quiescent_Kernel (hKernel := hKernel)
    ∧ quiescent_KernelIdeal (hKernelIdeal := hKernelIdeal)
    ∧ quiescent_KernelIdeal_pre_dy_is_bf16 (hKernelIdeal := hKernelIdeal) (hPre_dy_is_bf16 := hPre_dy_is_bf16)
    ∧ quiescent_ReferenceIdeal (hReferenceIdeal := hReferenceIdeal)
    ∧ quiescent_ReferenceIdeal_pre_dy_is_bf16 (hReferenceIdeal := hReferenceIdeal) (hPre_dy_is_bf16 := hPre_dy_is_bf16)
    ∧ preserves_Kernel_KernelIdeal
    ∧ algebraic_KernelIdeal_ReferenceIdeal_pre_dy_is_bf16 (hKernelIdeal := hKernelIdeal) (hReferenceIdeal := hReferenceIdeal) (hPre_dy_is_bf16 := hPre_dy_is_bf16)
-- ==== Pre_dy_is_bf16.lean ====
abbrev S24x512x8960 : Shape := ⟨3, ![24, 512, 8960]⟩
abbrev S1536x4480 : Shape := ⟨2, ![1536, 4480]⟩
abbrev S96x560 : Shape := ⟨2, ![96, 560]⟩
abbrev S_ : Shape := ⟨0, ![]⟩

class Facts : Prop where
  bcast_S_S24x512x8960 : S_.BroadcastsInDim S24x512x8960 (![] : Fin 0 → Fin S24x512x8960.rank)

variable [Facts]

def fn {F : FTy → Type} [FloatOps F] (main_arg0 : FVec F S24x512x8960 .bf16) (main_arg1 : IVec S1536x4480 8) (main_arg2 : FVec F S96x560 .fp8e4m3) (main_arg3 : FVec F S_ .f32) : IVec S24x512x8960 1 :=
  let main_v0 : FVec F S24x512x8960 .bf16 := Host.absf main_arg0
  let main_cst : FVec F S_ .bf16 := constant S_ .bf16 0x7F7F#16
  let main_v1 : FVec F S24x512x8960 .bf16 := broadcastInDim S24x512x8960 ![] bcast_S_S24x512x8960 main_cst
  let main_v2 : IVec S24x512x8960 1 := cmpf .ole main_v0 main_v1
  let main_cst_0 : FVec F S_ .bf16 := constant S_ .bf16 0x7F80#16
  let main_v3 : FVec F S24x512x8960 .bf16 := broadcastInDim S24x512x8960 ![] bcast_S_S24x512x8960 main_cst_0
  let main_v4 : IVec S24x512x8960 1 := cmpf .oeq main_v0 main_v3
  let main_v5 : IVec S24x512x8960 1 := ori main_v2 main_v4
  main_v5
-- ==== Kernel.lean ====
abbrev S24x512x8960 : Shape := ⟨3, ![24, 512, 8960]⟩
abbrev S1536x4480 : Shape := ⟨2, ![1536, 4480]⟩
abbrev S96x560 : Shape := ⟨2, ![96, 560]⟩
abbrev S_ : Shape := ⟨0, ![]⟩
abbrev S4480x1536 : Shape := ⟨2, ![4480, 1536]⟩
abbrev S560x96 : Shape := ⟨2, ![560, 96]⟩
abbrev S8960x1536 : Shape := ⟨2, ![8960, 1536]⟩
abbrev S128x1536 : Shape := ⟨2, ![128, 1536]⟩
abbrev S16x96 : Shape := ⟨2, ![16, 96]⟩
abbrev S256x1536 : Shape := ⟨2, ![256, 1536]⟩
abbrev S64x1536 : Shape := ⟨2, ![64, 1536]⟩
abbrev S96x1536 : Shape := ⟨2, ![96, 1536]⟩
abbrev S16x1536 : Shape := ⟨2, ![16, 1536]⟩
abbrev S1x1536 : Shape := ⟨2, ![1, 1536]⟩
abbrev S12288x8960 : Shape := ⟨2, ![12288, 8960]⟩
abbrev S1 : Shape := ⟨1, ![1]⟩
abbrev S12288x1536 : Shape := ⟨2, ![12288, 1536]⟩
abbrev S12288x1 : Shape := ⟨2, ![12288, 1]⟩
abbrev S256x8960 : Shape := ⟨2, ![256, 8960]⟩
abbrev S256x1 : Shape := ⟨2, ![256, 1]⟩
abbrev S256 : Shape := ⟨1, ![256]⟩
abbrev S1x255 : Shape := ⟨2, ![1, 255]⟩
abbrev S256x255 : Shape := ⟨2, ![256, 255]⟩

abbrev nBuf : Space → Nat
  | .hbm => 12
  | .vmem => 15
  | .smem => 1
  | _ => 0

abbrev bufTy : (tb : Table) → Fin (tcTables nBuf tb) → BufTy
  | .hbm, ⟨0, _⟩ => ⟨S24x512x8960, .bf16⟩
  | .hbm, ⟨1, _⟩ => ⟨S1536x4480, .i8⟩
  | .hbm, ⟨2, _⟩ => ⟨S96x560, .fp8e4m3⟩
  | .hbm, ⟨3, _⟩ => ⟨S_, .f32⟩
  | .hbm, ⟨4, _⟩ => ⟨S4480x1536, .i8⟩
  | .hbm, ⟨5, _⟩ => ⟨S560x96, .fp8e4m3⟩
  | .hbm, ⟨6, _⟩ => ⟨S8960x1536, .bf16⟩
  | .hbm, ⟨7, _⟩ => ⟨S12288x8960, .bf16⟩
  | .hbm, ⟨8, _⟩ => ⟨S1, .f32⟩
  | .hbm, ⟨9, _⟩ => ⟨S12288x1536, .bf16⟩
  | .hbm, ⟨10, _⟩ => ⟨S12288x8960, .fp8e5m2⟩
  | .hbm, ⟨11, _⟩ => ⟨S12288x1, .f32⟩
  | .local _ .vmem, ⟨0, _⟩ => ⟨S128x1536, .i8⟩
  | .local _ .vmem, ⟨1, _⟩ => ⟨S128x1536, .i8⟩
  | .local _ .vmem, ⟨2, _⟩ => ⟨S16x96, .fp8e4m3⟩
  | .local _ .vmem, ⟨3, _⟩ => ⟨S16x96, .fp8e4m3⟩
  | .local _ .vmem, ⟨4, _⟩ => ⟨S256x1536, .bf16⟩
  | .local _ .vmem, ⟨5, _⟩ => ⟨S256x1536, .bf16⟩
  | .local _ .vmem, ⟨6, _⟩ => ⟨S256x8960, .bf16⟩
  | .local _ .vmem, ⟨7, _⟩ => ⟨S256x8960, .bf16⟩
  | .local _ .vmem, ⟨8, _⟩ => ⟨S8960x1536, .bf16⟩
  | .local _ .vmem, ⟨9, _⟩ => ⟨S256x1536, .bf16⟩
  | .local _ .vmem, ⟨10, _⟩ => ⟨S256x1536, .bf16⟩
  | .local _ .vmem, ⟨11, _⟩ => ⟨S256x8960, .fp8e5m2⟩
  | .local _ .vmem, ⟨12, _⟩ => ⟨S256x8960, .fp8e5m2⟩
  | .local _ .vmem, ⟨13, _⟩ => ⟨S256x1, .f32⟩
  | .local _ .vmem, ⟨14, _⟩ => ⟨S256x1, .f32⟩
  | .local _ .smem, ⟨0, _⟩ => ⟨S1, .f32⟩
  | _, _ => ⟨S24x512x8960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![35], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x96 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![48], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8960 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8960x1536 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x1536 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x8960 .fp8e5m2 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S24x512x8960 : Shape := ⟨3, ![24, 512, 8960]⟩
abbrev S1536x4480 : Shape := ⟨2, ![1536, 4480]⟩
abbrev S96x560 : Shape := ⟨2, ![96, 560]⟩
abbrev S_ : Shape := ⟨0, ![]⟩
abbrev S1536x4480x1 : Shape := ⟨3, ![1536, 4480, 1]⟩
abbrev S1536x4480x2 : Shape := ⟨3, ![1536, 4480, 2]⟩
abbrev S1536x8960 : Shape := ⟨2, ![1536, 8960]⟩
abbrev S12288x8960 : Shape := ⟨2, ![12288, 8960]⟩
abbrev S1x1 : Shape := ⟨2, ![1, 1]⟩
abbrev S12288x1536 : Shape := ⟨2, ![12288, 1536]⟩
abbrev S12288x1 : Shape := ⟨2, ![12288, 1]⟩
abbrev S12288 : Shape := ⟨1, ![12288]⟩
abbrev S1x254 : Shape := ⟨2, ![1, 254]⟩
abbrev S12288x254 : Shape := ⟨2, ![12288, 254]⟩
abbrev S96x16x560x16 : Shape := ⟨4, ![96, 16, 560, 16]⟩
abbrev S96x1x560x1 : Shape := ⟨4, ![96, 1, 560, 1]⟩

abbrev nBuf : Space → Nat
  | .hbm => 81
  | .vmem => 7
  | .smem => 0
  | _ => 0

abbrev bufTy : (tb : Table) → Fin (tcTables nBuf tb) → BufTy
  | .hbm, ⟨0, _⟩ => ⟨S24x512x8960, .bf16⟩
  | .hbm, ⟨1, _⟩ => ⟨S1536x4480, .i8⟩
  | .hbm, ⟨2, _⟩ => ⟨S96x560, .fp8e4m3⟩
  | .hbm, ⟨3, _⟩ => ⟨S_, .f32⟩
  | .hbm, ⟨4, _⟩ => ⟨S1536x4480, .i32⟩
  | .hbm, ⟨5, _⟩ => ⟨S_, .i32⟩
  | .hbm, ⟨6, _⟩ => ⟨S1536x4480, .i32⟩
  | .hbm, ⟨7, _⟩ => ⟨S1536x4480, .i32⟩
  | .hbm, ⟨8, _⟩ => ⟨S_, .i32⟩
  | .hbm, ⟨9, _⟩ => ⟨S1536x4480, .i32⟩
  | .hbm, ⟨10, _⟩ => ⟨S1536x4480, .i32⟩
  | .hbm, ⟨11, _⟩ => ⟨S1536x4480x1, .i32⟩
  | .hbm, ⟨12, _⟩ => ⟨S1536x4480x1, .i32⟩
  | .hbm, ⟨13, _⟩ => ⟨S1536x4480x2, .i32⟩
  | .hbm, ⟨14, _⟩ => ⟨S1536x8960, .i32⟩
  | .hbm, ⟨15, _⟩ => ⟨S12288x8960, .bf16⟩
  | .hbm, ⟨16, _⟩ => ⟨S_, .i32⟩
  | .hbm, ⟨17, _⟩ => ⟨S1536x8960, .i32⟩
  | .hbm, ⟨18, _⟩ => ⟨S1536x8960, .i32⟩
  | .hbm, ⟨19, _⟩ => ⟨S_, .i32⟩
  | .hbm, ⟨20, _⟩ => ⟨S1536x8960, .i32⟩
  | .hbm, ⟨21, _⟩ => ⟨S1536x8960, .i32⟩
  | .hbm, ⟨22, _⟩ => ⟨S_, .i32⟩
  | .hbm, ⟨23, _⟩ => ⟨S1536x8960, .i32⟩
  | .hbm, ⟨24, _⟩ => ⟨S1536x8960, .i1⟩
  | .hbm, ⟨25, _⟩ => ⟨S_, .i32⟩
  | .hbm, ⟨26, _⟩ => ⟨S1536x8960, .i32⟩
  | .hbm, ⟨27, _⟩ => ⟨S1536x8960, .i32⟩
  | .hbm, ⟨28, _⟩ => ⟨S_, .i32⟩
  | .hbm, ⟨29, _⟩ => ⟨S1536x8960, .i32⟩
  | .hbm, ⟨30, _⟩ => ⟨S1536x8960, .i32⟩
  | .hbm, ⟨31, _⟩ => ⟨S_, .i32⟩
  | .hbm, ⟨32, _⟩ => ⟨S1536x8960, .i32⟩
  | .hbm, ⟨33, _⟩ => ⟨S1536x8960, .i1⟩
  | .hbm, ⟨34, _⟩ => ⟨S_, .i32⟩
  | .hbm, ⟨35, _⟩ => ⟨S1536x8960, .i32⟩
  | .hbm, ⟨36, _⟩ => ⟨S1536x8960, .i32⟩
  | .hbm, ⟨37, _⟩ => ⟨S_, .i32⟩
  | .hbm, ⟨38, _⟩ => ⟨S1536x8960, .i32⟩
  | .hbm, ⟨39, _⟩ => ⟨S1536x8960, .i32⟩
  | .hbm, ⟨40, _⟩ => ⟨S_, .i32⟩
  | .hbm, ⟨41, _⟩ => ⟨S1536x8960, .i32⟩
  | .hbm, ⟨42, _⟩ => ⟨S1536x8960, .i1⟩
  | .hbm, ⟨43, _⟩ => ⟨S_, .i32⟩
  | .hbm, ⟨44, _⟩ => ⟨S1536x8960, .i32⟩
  | .hbm, ⟨45, _⟩ => ⟨S1536x8960, .i32⟩
  | .hbm, ⟨46, _⟩ => ⟨S_, .i32⟩
  | .hbm, ⟨47, _⟩ => ⟨S1536x8960, .i32⟩
  | .hbm, ⟨48, _⟩ => ⟨S1536x8960, .i32⟩
  | .hbm, ⟨49, _⟩ => ⟨S_, .i32⟩
  | .hbm, ⟨50, _⟩ => ⟨S1536x8960, .i32⟩
  | .hbm, ⟨51, _⟩ => ⟨S1536x8960, .i1⟩
  | .hbm, ⟨52, _⟩ => ⟨S_, .bf16⟩
  | .hbm, ⟨53, _⟩ => ⟨S_, .bf16⟩
  | .hbm, ⟨54, _⟩ => ⟨S1536x8960, .bf16⟩
  | .hbm, ⟨55, _⟩ => ⟨S1536x8960, .bf16⟩
  | .hbm, ⟨56, _⟩ => ⟨S1536x8960, .bf16⟩
  | .hbm, ⟨57, _⟩ => ⟨S_, .bf16⟩
  | .hbm, ⟨58, _⟩ => ⟨S_, .bf16⟩
  | .hbm, ⟨59, _⟩ => ⟨S1536x8960, .bf16⟩
  | .hbm, ⟨60, _⟩ => ⟨S1536x8960, .bf16⟩
  | .hbm, ⟨61, _⟩ => ⟨S1536x8960, .bf16⟩
  | .hbm, ⟨62, _⟩ => ⟨S1536x8960, .bf16⟩
  | .hbm, ⟨63, _⟩ => ⟨S_, .bf16⟩
  | .hbm, ⟨64, _⟩ => ⟨S_, .bf16⟩
  | .hbm, ⟨65, _⟩ => ⟨S1536x8960, .bf16⟩
  | .hbm, ⟨66, _⟩ => ⟨S1536x8960, .bf16⟩
  | .hbm, ⟨67, _⟩ => ⟨S1536x8960, .bf16⟩
  | .hbm, ⟨68, _⟩ => ⟨S_, .bf16⟩
  | .hbm, ⟨69, _⟩ => ⟨S_, .bf16⟩
  | .hbm, ⟨70, _⟩ => ⟨S1536x8960, .bf16⟩
  | .hbm, ⟨71, _⟩ => ⟨S1536x8960, .bf16⟩
  | .hbm, ⟨72, _⟩ => ⟨S1536x8960, .bf16⟩
  | .hbm, ⟨73, _⟩ => ⟨S1536x8960, .bf16⟩
  | .hbm, ⟨74, _⟩ => ⟨S1536x8960, .bf16⟩
  | .hbm, ⟨75, _⟩ => ⟨S1536x8960, .bf16⟩
  | .hbm, ⟨76, _⟩ => ⟨S1536x8960, .bf16⟩
  | .hbm, ⟨77, _⟩ => ⟨S1x1, .f32⟩
  | .hbm, ⟨78, _⟩ => ⟨S12288x1536, .bf16⟩
  | .hbm, ⟨79, _⟩ => ⟨S12288x8960, .fp8e5m2⟩
  | .hbm, ⟨80, _⟩ => ⟨S12288x1, .f32⟩
  | .local _ .vmem, ⟨0, _⟩ => ⟨S12288x8960, .bf16⟩
  | .local _ .vmem, ⟨1, _⟩ => ⟨S1536x8960, .bf16⟩
  | .local _ .vmem, ⟨2, _⟩ => ⟨S96x560, .fp8e4m3⟩
  | .local _ .vmem, ⟨3, _⟩ => ⟨S1x1, .f32⟩
  | .local _ .vmem, ⟨4, _⟩ => ⟨S12288x1536, .bf16⟩
  | .local _ .vmem, ⟨5, _⟩ => ⟨S12288x8960, .fp8e5m2⟩
  | .local _ .vmem, ⟨6, _⟩ => ⟨S12288x1, .f32⟩
  | _, _ => ⟨S24x512x8960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_c_5 : Ref sig .tc := ⟨.hbm, 28, rfl⟩
abbrev main_v18 : Ref sig .tc := ⟨.hbm, 29, rfl⟩
abbrev main_v19 : Ref sig .tc := ⟨.hbm, 30, rfl⟩
abbrev main_c_6 : Ref sig .tc := ⟨.hbm, 31, rfl⟩
abbrev main_v20 : Ref sig .tc := ⟨.hbm, 32, rfl⟩
abbrev main_v21 : Ref sig .tc := ⟨.hbm, 33, rfl⟩
abbrev main_c_7 : Ref sig .tc := ⟨.hbm, 34, rfl⟩
abbrev main_v22 : Ref sig .tc := ⟨.hbm, 35, rfl⟩
abbrev main_v23 : Ref sig .tc := ⟨.hbm, 36, rfl⟩
abbrev main_c_8 : Ref sig .tc := ⟨.hbm, 37, rfl⟩
abbrev main_v24 : Ref sig .tc := ⟨.hbm, 38, rfl⟩
abbrev main_v25 : Ref sig .tc := ⟨.hbm, 39, rfl⟩
abbrev main_c_9 : Ref sig .tc := ⟨.hbm, 40, rfl⟩
abbrev main_v26 : Ref sig .tc := ⟨.hbm, 41, rfl⟩
abbrev main_v27 : Ref sig .tc := ⟨.hbm, 42, rfl⟩
abbrev main_c_10 : Ref sig .tc := ⟨.hbm, 43, rfl⟩
abbrev main_v28 : Ref sig .tc := ⟨.hbm, 44, rfl⟩
abbrev main_v29 : Ref sig .tc := ⟨.hbm, 45, rfl⟩
abbrev main_c_11 : Ref sig .tc := ⟨.hbm, 46, rfl⟩
abbrev main_v30 : Ref sig .tc := ⟨.hbm, 47, rfl⟩
abbrev main_v31 : Ref sig .tc := ⟨.hbm, 48, rfl⟩
abbrev main_c_12 : Ref sig .tc := ⟨.hbm, 49, rfl⟩
abbrev main_v32 : Ref sig .tc := ⟨.hbm, 50, rfl⟩
abbrev main_v33 : Ref sig .tc := ⟨.hbm, 51, rfl⟩
abbrev main_cst : Ref sig .tc := ⟨.hbm, 52, rfl⟩
abbrev main_cst_13 : Ref sig .tc := ⟨.hbm, 53, rfl⟩
abbrev main_call0_v0 : Ref sig .tc := ⟨.hbm, 54, rfl⟩
abbrev main_call0_v1 : Ref sig .tc := ⟨.hbm, 55, rfl⟩
abbrev main_v34 : Ref sig .tc := ⟨.hbm, 56, rfl⟩
abbrev main_cst_14 : Ref sig .tc := ⟨.hbm, 57, rfl⟩
abbrev main_cst_15 : Ref sig .tc := ⟨.hbm, 58, rfl⟩
abbrev main_call1_v0 : Ref sig .tc := ⟨.hbm, 59, rfl⟩
abbrev main_call1_v1 : Ref sig .tc := ⟨.hbm, 60, rfl⟩
abbrev main_v35 : Ref sig .tc := ⟨.hbm, 61, rfl⟩
abbrev main_v36 : Ref sig .tc := ⟨.hbm, 62, rfl⟩
abbrev main_cst_16 : Ref sig .tc := ⟨.hbm, 63, rfl⟩
abbrev main_cst_17 : Ref sig .tc := ⟨.hbm, 64, rfl⟩
abbrev main_call3_v0 : Ref sig .tc := ⟨.hbm, 65, rfl⟩
abbrev main_call3_v1 : Ref sig .tc := ⟨.hbm, 66, rfl⟩
abbrev main_v37 : Ref sig .tc := ⟨.hbm, 67, rfl⟩
abbrev main_cst_18 : Ref sig .tc := ⟨.hbm, 68, rfl⟩
abbrev main_cst_19 : Ref sig .tc := ⟨.hbm, 69, rfl⟩
abbrev main_call4_v0 : Ref sig .tc := ⟨.hbm, 70, rfl⟩
abbrev main_call4_v1 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44_0 : Ref sig .tc := ⟨.hbm, 78, rfl⟩
abbrev main_v44_1 : Ref sig .tc := ⟨.hbm, 79, rfl⟩
abbrev main_v44_2 : Ref sig .tc := ⟨.hbm, 80, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S12288x8960 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x8960 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x8960 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Quant.lean ====
/-
  The row quantiser's exponent, as scalar facts over the extended reals. The kernel counts the powers of two not above
  the scaled row maximum and assembles the two factors `2^e` and `2^-e` from bits; the reference searches for the least
  exponent with `x < 2^i` and calls `exp2`. Both are functions of one extended real, and they agree on every value that
  the scaled maximum of a row of bfloat16 numbers can take.
-/
module

public import Idealize.ShloMosaic.PureOps
public import Idealize.ShloMosaic.Lib.IndicatorCount
public import Idealize.ShloMosaic.Lib.Pointwise

@[expose] public section

noncomputable section

namespace Cert.Quant

open Idealize.ShloMosaic

/-- A positive normal binary32 word, by its fields. -/
theorem ofBits_fields (b : BitVec 32) (n f : ℕ) (h1 : b.extractLsb' 31 1 = 0#1) (h2 : (b.extractLsb' 23 8).toNat = n)
    (h3 : (b.extractLsb' 0 23).toNat = f) (hn : n ≠ 255) (hn0 : n ≠ 0) :
    Ideal.ofBits .f32 b = ((((2 ^ 23 + f : ℕ) : ℝ) * (2 : ℝ) ^ ((n : ℤ) - 150) : ℝ) : EReal) := by
  have e : Ideal.ofBits .f32 b = Ideal.ieee 8 23 b := rfl
  have z : (0#1 == 1#1) = false := by decide
  rw [e]
  unfold Ideal.ieee
  dsimp only
  rw [h2, h3, h1, z, if_neg (by norm_num; exact hn), if_neg hn0]
  have e2 : ((n : ℤ) - (2 ^ (8 - 1) - 1) - (23 : ℕ)) = (n : ℤ) - 150 := by norm_num; ring
  rw [e2]
  norm_num

theorem pow_sign : ∀ k : Fin 256, (BitVec.ofNat 32 k.val <<< 23).extractLsb' 31 1 = 0#1 := by decide +kernel
theorem pow_exp : ∀ k : Fin 256, ((BitVec.ofNat 32 k.val <<< 23).extractLsb' 23 8).toNat = k.val := by decide +kernel
theorem pow_frac : ∀ k : Fin 256, ((BitVec.ofNat 32 k.val <<< 23).extractLsb' 0 23).toNat = 0 := by decide +kernel

/-- The 32-bit word whose exponent field is `n` and whose other bits are zero reads `2^(n-127)`, for a normal exponent. -/
theorem ofBits_pow (n : ℕ) (h1 : 1 ≤ n) (h2 : n ≤ 254) :
    Ideal.ofBits .f32 (BitVec.ofNat 32 n <<< 23) = (((2 : ℝ) ^ ((n : ℤ) - 127) : ℝ) : EReal) := by
  have k1 := pow_sign ⟨n, by omega⟩
  have k2 := pow_exp ⟨n, by omega⟩
  have k3 := pow_frac ⟨n, by omega⟩
  rw [ofBits_fields _ n 0 k1 k2 k3 (by omega) (by omega), EReal.coe_eq_coe_iff]
  have e : ((n : ℤ) - 127) = ((n : ℤ) - 150) + 23 := by ring
  rw [e, zpow_add₀ (by norm_num : (2 : ℝ) ≠ 0), mul_comm]
  norm_num

/-- The word with an all-ones exponent and no fraction reads `+∞`. -/
theorem ofBits_255 : Ideal.ofBits .f32 (BitVec.ofNat 32 255 <<< 23) = ⊤ := by
  simp [Ideal.ofBits, Ideal.ieee]

/-- The number of the powers `2^-126 … 2^127, +∞` that are at most `x`, as the kernel's words spell them. -/
def cnt (x : EReal) : ℕ :=
  (Finset.univ.filter fun k : Fin 255 =>
    Ideal.ofBits .f32 (IntOp.shli .vector (IntOp.addi (BitVec.ofNat 32 k.val) 1#32) 23#32) ≤ x).card

/-- The `k`-th of those powers. -/
theorem thr (k : Fin 255) :
    Ideal.ofBits .f32 (IntOp.shli .vector (IntOp.addi (BitVec.ofNat 32 k.val) 1#32) 23#32)
      = if k.val = 254 then ⊤ else (((2 : ℝ) ^ ((k.val : ℤ) - 126) : ℝ) : EReal) := by
  have e : IntOp.shli .vector (IntOp.addi (BitVec.ofNat 32 k.val) 1#32) 23#32 = BitVec.ofNat 32 (k.val + 1) <<< 23 := by
    revert k; decide +kernel
  rw [e]
  split
  · rename_i h; rw [h]; exact ofBits_255
  · rename_i h
    rw [ofBits_pow _ (by omega) (by omega)]
    congr 2
    push_cast; ring

/-- The kernel's exponent of a scaled row maximum: the biased exponent, counted, less 126, and zero below the normal
    range and at infinity. -/
def kerE (x : EReal) : BitVec 32 :=
  Scalar.select (IntOp.ori (IntOp.cmpi .eq (BitVec.ofNat 32 (cnt x)) 0#32) (IntOp.cmpi .eq (BitVec.ofNat 32 (cnt x)) 255#32))
    (0#32) (IntOp.subi (BitVec.ofNat 32 (cnt x)) 126#32)

/-- The reference's exponent of a scaled row maximum: the least `i` in `-125 … 128` with `x < 2^i`, and zero below the
    normal range and at infinity. -/
def refE (x : EReal) : EReal :=
  Scalar.select (IntOp.ori (BitVec.ofBool (decide (x < Ideal.ofBits .f32 0x00800000#32)))
      (BitVec.ofBool (decide (x = Ideal.ofBits .f32 0x7F800000#32))))
    (0 : EReal)
    (Finset.univ.fold min (Ideal.ofBits .f32 0x7F800000#32) fun i : Fin 254 =>
      if x < Ideal.exp2 (((IntOp.subi (BitVec.ofNat 32 i.val) 125#32).toInt : ℝ) : EReal)
        then (((IntOp.subi (BitVec.ofNat 32 i.val) 125#32).toInt : ℝ) : EReal)
        else Ideal.ofBits .f32 0x43010000#32)

/-- The kernel's scale `2^e`, assembled from bits. -/
def kerScale (x : EReal) : EReal := Ideal.ofBits .f32 (IntOp.shli .vector (IntOp.addi (kerE x) 127#32) 23#32)
/-- The kernel's inverse scale `2^-e`, assembled from bits. -/
def kerInv (x : EReal) : EReal := Ideal.ofBits .f32 (IntOp.shli .vector (IntOp.subi 127#32 (kerE x)) 23#32)

theorem tiny : Ideal.ofBits .f32 0x00800000#32 = (((2 : ℝ) ^ (-126 : ℤ) : ℝ) : EReal) := by
  have := ofBits_pow 1 (by omega) (by omega)
  simpa using this

theorem inf : Ideal.ofBits .f32 0x7F800000#32 = ⊤ := ofBits_255

theorem c129 : Ideal.ofBits .f32 0x43010000#32 = ((129 : ℝ) : EReal) := by
  rw [ofBits_fields _ 134 65536 (by decide) (by decide) (by decide) (by omega) (by omega)]
  congr 1
  norm_num

theorem exp2_int (n : ℤ) : Ideal.exp2 ((n : ℝ) : EReal) = (((2 : ℝ) ^ n : ℝ) : EReal) := by
  rw [Ideal.exp2_coe]
  congr 1
  exact Real.rpow_intCast 2 n

theorem toInt_sub (i : Fin 254) : (IntOp.subi (BitVec.ofNat 32 i.val) 125#32).toInt = (i.val : ℤ) - 125 := by
  revert i; decide +kernel

theorem zpow_lt_iff (a b : ℤ) : ((2 : ℝ) ^ a < (2 : ℝ) ^ b) ↔ a < b :=
  zpow_lt_zpow_iff_right₀ (by norm_num)

theorem cnt_small {x : EReal} (h : x < Ideal.ofBits .f32 0x00800000#32) : cnt x = 0 := by
  rw [tiny] at h
  unfold cnt
  rw [Finset.card_eq_zero, Finset.filter_eq_empty_iff]
  intro k _ hk
  rw [thr] at hk
  split at hk
  · rw [top_le_iff.mp hk] at h; exact absurd h (by simp)
  · have := lt_of_le_of_lt hk h
    rw [EReal.coe_lt_coe_iff, zpow_lt_iff] at this
    omega

theorem cnt_top : cnt ⊤ = 255 := by
  unfold cnt
  simp

theorem cnt_mid {x : ℝ} {p : ℕ} (hp : 1 ≤ p) (hp2 : p ≤ 239) (h1 : (2 : ℝ) ^ ((p : ℤ) - 127) ≤ x)
    (h2 : x < (2 : ℝ) ^ ((p : ℤ) - 126)) : cnt (x : EReal) = p := by
  unfold cnt
  have : (Finset.univ.filter fun k : Fin 255 =>
      Ideal.ofBits .f32 (IntOp.shli .vector (IntOp.addi (BitVec.ofNat 32 k.val) 1#32) 23#32) ≤ (x : EReal))
      = Finset.univ.filter fun k : Fin 255 => k.val < p := by
    apply Finset.filter_congr
    intro k _
    rw [thr]
    split
    · rename_i h
      constructor
      · intro h'; exact absurd (top_le_iff.mp h') (EReal.coe_ne_top x)
      · intro h'; omega
    · rw [EReal.coe_le_coe_iff]
      constructor
      · intro h'
        have := lt_of_le_of_lt h' h2
        rw [zpow_lt_iff] at this
        omega
      · intro h'
        refine le_trans ?_ h1
        exact zpow_le_zpow_right₀ (by norm_num) (by omega)
  rw [this]
  rw [Fin.card_filter_val_lt]
  omega

/-- In the normal range, where `2^(p-127) ≤ x < 2^(p-126)`, the reference's exponent is `p - 126`. -/
theorem refE_mid {x : ℝ} {p : ℕ} (hp : 1 ≤ p) (hp2 : p ≤ 239) (h1 : (2 : ℝ) ^ ((p : ℤ) - 127) ≤ x)
    (h2 : x < (2 : ℝ) ^ ((p : ℤ) - 126)) : refE (x : EReal) = ((((p : ℤ) - 126 : ℤ) : ℝ) : EReal) := by
  unfold refE
  rw [tiny, inf, c129]
  have n1 : ¬ ((x : EReal) < (((2 : ℝ) ^ (-126 : ℤ) : ℝ) : EReal)) := by
    rw [EReal.coe_lt_coe_iff, not_lt]
    exact le_trans (zpow_le_zpow_right₀ (by norm_num) (by omega)) h1
  have n2 : ¬ ((x : EReal) = ⊤) := EReal.coe_ne_top x
  simp only [n1, n2, decide_false, toInt_sub, exp2_int]
  have s0 : ∀ a b : EReal, Scalar.select (IntOp.ori (BitVec.ofBool false) (BitVec.ofBool false)) a b = b := by
    intro a b; rfl
  rw [s0]
  apply le_antisymm
  · rw [Finset.fold_min_le]
    right
    refine ⟨⟨p - 1, by omega⟩, Finset.mem_univ _, ?_⟩
    have e : (((⟨p - 1, by omega⟩ : Fin 254).val : ℤ) - 125) = (p : ℤ) - 126 := by simp only; omega
    rw [e, if_pos (by rw [EReal.coe_lt_coe_iff]; exact h2)]
  · rw [Finset.le_fold_min]
    refine ⟨le_top, ?_⟩
    intro i _
    split
    · rename_i h
      rw [EReal.coe_lt_coe_iff] at h
      have := lt_of_le_of_lt h1 h
      rw [zpow_lt_iff] at this
      rw [EReal.coe_le_coe_iff]
      exact_mod_cast (by omega : (p : ℤ) - 126 ≤ (i.val : ℤ) - 125)
    · rw [EReal.coe_le_coe_iff]
      exact_mod_cast (by omega : (p : ℤ) - 126 ≤ 129)

theorem refE_small {x : EReal} (h : x < Ideal.ofBits .f32 0x00800000#32) : refE x = 0 := by
  unfold refE
  have s0 : ∀ (a b : EReal) (c : BitVec 1), Scalar.select (IntOp.ori (BitVec.ofBool true) c) a b = a := by
    intro a b c
    have : IntOp.ori (BitVec.ofBool true) c = 1#1 := by revert c; decide
    rw [this]; rfl
  simp only [h, decide_true]
  exact s0 _ _ _

theorem refE_top : refE ⊤ = 0 := by
  unfold refE
  have s0 : ∀ (a b : EReal) (c : BitVec 1), Scalar.select (IntOp.ori c (BitVec.ofBool true)) a b = a := by
    intro a b c
    have : IntOp.ori c (BitVec.ofBool true) = 1#1 := by revert c; decide
    rw [this]; rfl
  simp only [inf, decide_true]
  exact s0 _ _ _

theorem kerE_zero {x : EReal} (h : cnt x = 0 ∨ cnt x = 255) : kerE x = 0#32 := by
  unfold kerE
  rcases h with h | h <;> rw [h] <;> rfl

theorem ofBits_one' : Ideal.ofBits .f32 (BitVec.ofNat 32 127 <<< 23) = 1 := by
  rw [ofBits_pow 127 (by omega) (by omega)]; norm_num

theorem exp2_zero : Ideal.exp2 0 = 1 := by
  have := exp2_int 0
  simpa using this

/-- Where both exponents are zero, both scales and both inverse scales are one. -/
theorem scales_zero {x : EReal} (hk : kerE x = 0#32) (hr : refE x = 0) :
    kerScale x = Ideal.exp2 (refE x) ∧ kerInv x = Ideal.exp2 (0 - refE x) := by
  unfold kerScale kerInv
  rw [hk, hr]
  have e1 : IntOp.shli .vector (IntOp.addi 0#32 127#32) 23#32 = BitVec.ofNat 32 127 <<< 23 := by decide
  have e2 : IntOp.shli .vector (IntOp.subi 127#32 0#32) 23#32 = BitVec.ofNat 32 127 <<< 23 := by decide
  rw [e1, e2, ofBits_one']
  simp [exp2_zero]

/-- The kernel's bits at a counted exponent. -/
theorem kerE_words (p : Fin 240) (hp : 1 ≤ p.val) :
    let e := Scalar.select (IntOp.ori (IntOp.cmpi .eq (BitVec.ofNat 32 p.val) 0#32) (IntOp.cmpi .eq (BitVec.ofNat 32 p.val) 255#32))
      (0#32) (IntOp.subi (BitVec.ofNat 32 p.val) 126#32)
    IntOp.shli .vector (IntOp.addi e 127#32) 23#32 = BitVec.ofNat 32 (p.val + 1) <<< 23
      ∧ IntOp.shli .vector (IntOp.subi 127#32 e) 23#32 = BitVec.ofNat 32 (253 - p.val) <<< 23 := by
  revert p; decide +kernel

/-- The two quantisers' scale and inverse scale agree at every value a scaled row maximum of bfloat16 numbers takes. -/
theorem scales_eq {x : EReal} (h0 : 0 ≤ x) (h : x < (((2 : ℝ) ^ (113 : ℤ) : ℝ) : EReal) ∨ x = ⊤) :
    kerScale x = Ideal.exp2 (refE x) ∧ kerInv x = Ideal.exp2 (0 - refE x) := by
  rcases h with h | rfl
  · by_cases hs : x < Ideal.ofBits .f32 0x00800000#32
    · exact scales_zero (kerE_zero (.inl (cnt_small hs))) (refE_small hs)
    · rw [tiny, not_lt] at hs
      lift x to ℝ using ⟨(lt_of_lt_of_le h le_top).ne, (lt_of_lt_of_le (by simp) h0).ne'⟩
      rw [EReal.coe_le_coe_iff] at hs
      rw [EReal.coe_lt_coe_iff] at h
      have hx : 0 < x := lt_of_lt_of_le (by positivity) hs
      obtain ⟨n, hn1, hn2⟩ := exists_mem_Ico_zpow hx (by norm_num : (1 : ℝ) < 2)
      have a1 : -126 < n + 1 := by
        have := lt_of_le_of_lt hs hn2
        rwa [zpow_lt_iff] at this
      have a2 : n < 113 := by
        have := lt_of_le_of_lt hn1 h
        rwa [zpow_lt_iff] at this
      obtain ⟨p, hp⟩ : ∃ p : ℕ, (p : ℤ) = n + 127 := ⟨(n + 127).toNat, by omega⟩
      have e1 : n = (p : ℤ) - 127 := by omega
      have e2 : n + 1 = (p : ℤ) - 126 := by omega
      rw [e1] at hn1
      rw [e2] at hn2
      have p1 : 1 ≤ p := by omega
      have p2 : p ≤ 239 := by omega
      have hc := cnt_mid p1 p2 hn1 hn2
      obtain ⟨w1, w2⟩ := kerE_words ⟨p, by omega⟩ p1
      unfold kerScale kerInv kerE
      rw [refE_mid p1 p2 hn1 hn2, hc]
      refine ⟨?_, ?_⟩
      · rw [exp2_int]
        refine (congrArg (Ideal.ofBits .f32) w1).trans ?_
        rw [ofBits_pow _ (by simp) (by simp only; omega)]
        congr 2
        push_cast; ring
      · have e3 : (0 : EReal) - ((((p : ℤ) - 126 : ℤ) : ℝ) : EReal) = ((((126 : ℤ) - p : ℤ) : ℝ) : EReal) := by
          rw [zero_sub, ← EReal.coe_neg]; congr 1; push_cast; ring
        rw [e3, exp2_int]
        refine (congrArg (Ideal.ofBits .f32) w2).trans ?_
        rw [ofBits_pow _ (by simp only; omega) (by simp only; omega)]
        congr 2
        simp only
        omega
  · exact scales_zero (kerE_zero (.inr cnt_top)) refE_top

/-! ### The scaled maximum of a row of bfloat16 numbers -/

/-- The scaled maximum of a row: the greatest absolute value times the constant `1/57344` in binary32. -/
def rowX (d : Fin 8960 → EReal) : EReal :=
  (Finset.univ.fold max (⊥ : EReal) fun k => max (d k) (-(d k))) * Ideal.ofBits .f32 0x37924925#32

theorem c_val : Ideal.ofBits .f32 0x37924925#32 = (((9586981 : ℝ) * (2 : ℝ) ^ (-39 : ℤ) : ℝ) : EReal) := by
  rw [ofBits_fields _ 111 1198373 (by decide) (by decide) (by decide) (by omega) (by omega)]
  norm_num

/-- Absolute values at most the largest finite bfloat16 number, or infinite, keep the scaled maximum in the range where
    the two quantisers agree. -/
theorem rowX_range (d : Fin 8960 → EReal)
    (h : ∀ k, max (d k) (-(d k)) < (((2 : ℝ) ^ (128 : ℤ) : ℝ) : EReal) ∨ max (d k) (-(d k)) = ⊤) :
    0 ≤ rowX d ∧ (rowX d < (((2 : ℝ) ^ (113 : ℤ) : ℝ) : EReal) ∨ rowX d = ⊤) := by
  have cpos : (0 : ℝ) < (9586981 : ℝ) * (2 : ℝ) ^ (-39 : ℤ) := by positivity
  have m0 : 0 ≤ Finset.univ.fold max (⊥ : EReal) fun k => max (d k) (-(d k)) := by
    rw [Finset.le_fold_max]
    right
    refine ⟨0, Finset.mem_univ _, ?_⟩
    rcases le_total 0 (d 0) with h | h
    · exact le_max_of_le_left h
    · exact le_max_of_le_right (by rw [EReal.le_neg]; simpa using h)
  have m1 : (Finset.univ.fold max (⊥ : EReal) fun k => max (d k) (-(d k))) < (((2 : ℝ) ^ (128 : ℤ) : ℝ) : EReal)
      ∨ (Finset.univ.fold max (⊥ : EReal) fun k => max (d k) (-(d k))) = ⊤ := by
    by_cases ht : ∃ k, max (d k) (-(d k)) = ⊤
    · right
      obtain ⟨k, hk⟩ := ht
      rw [← top_le_iff, Finset.le_fold_max]
      exact .inr ⟨k, Finset.mem_univ _, hk.ge⟩
    · left
      push Not at ht
      rw [Finset.fold_max_lt]
      exact ⟨EReal.bot_lt_coe _, fun k _ => (h k).resolve_right (ht k)⟩
  unfold rowX
  rw [c_val]
  generalize (Finset.univ.fold max (⊥ : EReal) fun k => max (d k) (-(d k))) = m at m0 m1
  rcases m1 with m1 | rfl
  · lift m to ℝ using ⟨(lt_of_lt_of_le m1 le_top).ne, (lt_of_lt_of_le (by simp) m0).ne'⟩
    rw [← EReal.coe_mul]
    rw [EReal.coe_lt_coe_iff] at m1
    have m0' : 0 ≤ m := by exact_mod_cast m0
    refine ⟨by exact_mod_cast mul_nonneg m0' cpos.le, .inl ?_⟩
    rw [EReal.coe_lt_coe_iff]
    calc m * ((9586981 : ℝ) * (2 : ℝ) ^ (-39 : ℤ)) < (2 : ℝ) ^ (128 : ℤ) * ((9586981 : ℝ) * (2 : ℝ) ^ (-39 : ℤ)) :=
          mul_lt_mul_of_pos_right m1 cpos
      _ < (2 : ℝ) ^ (113 : ℤ) := by norm_num
  · rw [EReal.top_mul_coe_of_pos cpos]
    exact ⟨le_top, .inr rfl⟩

end Cert.Quant

end
-- ==== Proof.MainBlock.lean ====
/-
  The main kernel's three stored values for a block of 256 rows, read at an index: the scale of a row, the codes of a
  row, and the entry of the product.
-/
module

public import proofs.«01_k».proof.Proof.Gen.KernelIdeal
public import proofs.«01_k».proof.Proof.Gen.KernelIdeal.Skeleton
public import proofs.«01_k».proof.Proof.Quant
public import Idealize.ShloMosaic.Lib.Pointwise

@[expose] public section

set_option maxRecDepth 16384

noncomputable section

namespace Cert.KernelIdeal.Block

open Idealize.ShloMosaic Idealize.ShloMosaic.TcCoe
open Cert.KernelIdeal Cert.KernelIdeal.Gen

/-- The scaled row maximum the kernel quantises by. -/
def rowX (v0 : Vec Ideal S256x8960 .bf16) : FVec Ideal S256x1 .f32 :=
  mulf (extf .f32 (shapeCast S256x1 (multiReduction (F := Ideal) .maximumf [1] S256 (absf (k1_pay3 v0)) 0xFF80#16 reduces_S256x8960_S256 (.inr rfl) rfl) shapeCasts_S256_S256x1) bitsLt_bf16_f32)
    (broadcast S256x1 (Scalar.ofBits .f32 0x37924925#32))

/-- The number of powers of two not above the scaled row maximum. -/
def countOf (v13 : FVec Ideal S256x1 .f32) : IVec S256x1 32 :=
  let v8 : IVec S1x255 32 := addi (iota .tc S1x255 32 [1] iota_S1x255_d1_w32) (broadcast S1x255 1#32)
  let v11 : FVec Ideal S1x255 .f32 := bitcastToFloat .f32 (shli v8 (broadcast S1x255 23#32))
  let v16 : IVec S256x255 1 := cmpf .oge (broadcastTo S256x255 v13 broadcasts_S256x1_S256x255) (broadcastTo S256x255 v11 broadcasts_S1x255_S256x255)
  shapeCast S256x1 (multiReductionI .add [1] S256 (extui 32 v16 natLt_1_32) 0#32 reduces_S256x255_S256 rfl) shapeCasts_S256_S256x1

/-- The exponent from that number. -/
def expOf (v19 : IVec S256x1 32) : IVec S256x1 32 :=
  select (ori (cmpi .eq v19 (broadcast S256x1 0#32)) (cmpi .eq v19 (broadcast S256x1 255#32))) (broadcast S256x1 0#32)
    (subi v19 (broadcast S256x1 126#32))

theorem pay4_eq (v0 : Vec Ideal S256x8960 .bf16) : k1_pay4 (F := Ideal) v0 = expOf (countOf (rowX v0)) := rfl

theorem scaled_apply (w : FVec Ideal S256 .bf16) (c : Ideal .f32) (r : Fin 256) :
    mulf (extf .f32 (shapeCast S256x1 w shapeCasts_S256_S256x1) bitsLt_bf16_f32) (broadcast S256x1 c) (ix2 r (0 : Fin 1)) = w (ix1 r) * c := by
  pointwise

theorem abs_apply (v0 : Vec Ideal S256x8960 .bf16) (r : Fin 256) (x : Fin 8960) :
    absf (k1_pay3 v0) (ix2 r x) = max (v0 (ix2 r x)) (-(v0 (ix2 r x))) := by
  pointwise [k1_pay3]
  simp only [Ideal.absf_def]

theorem max_apply (a : FVec Ideal S256x8960 .bf16) (r : Fin 256) :
    multiReduction (F := Ideal) (φ := .bf16) .maximumf [1] S256 a 0xFF80#16 reduces_S256x8960_S256 (.inr rfl) rfl (ix1 r)
      = Finset.fold max (Ideal.ofBits FTy.bf16 0xFF80#16) (fun x => a (ix2 r x)) Finset.univ := by
  pointwise

theorem neg_inf : Ideal.ofBits .bf16 0xFF80#16 = ⊥ := by
  simp [Ideal.ofBits, Ideal.ieee]

theorem rowX_apply (v0 : Vec Ideal S256x8960 .bf16) (r : Fin 256) :
    rowX v0 (ix2 r (0 : Fin 1)) = Quant.rowX fun k => v0 (ix2 r k) := by
  unfold rowX Quant.rowX
  rw [scaled_apply, max_apply, neg_inf]
  simp only [abs_apply, Scalar.ofBits, Ideal.ofBits_def]

theorem countOf_apply (v : FVec Ideal S256x1 .f32) (r : Fin 256) :
    countOf v (ix2 r (0 : Fin 1)) = BitVec.ofNat 32 (Quant.cnt (v (ix2 r (0 : Fin 1)))) := by
  pointwise [countOf]
  rw [IndicatorCount.fold_addi_setWidth_eq_card]
  unfold Quant.cnt
  congr 2
  apply Finset.filter_congr
  intro k _
  by_cases h : Ideal.ofBits FTy.f32 (IntOp.shli ArithUnit.vector (IntOp.addi (BitVec.ofNat 32 k.val) 1#32) 23#32) ≤ v (ix2 r 0)
  · simp only [h, decide_true, BitVec.ofBool_true]
    exact iff_of_true rfl trivial
  · simp only [h, decide_false, BitVec.ofBool_false]
    decide

theorem expOf_apply (v : IVec S256x1 32) (r : Fin 256) :
    expOf v (ix2 r (0 : Fin 1)) = Scalar.select (IntOp.ori (IntOp.cmpi .eq (v (ix2 r (0 : Fin 1))) 0#32) (IntOp.cmpi .eq (v (ix2 r (0 : Fin 1))) 255#32))
      (0#32) (IntOp.subi (v (ix2 r (0 : Fin 1))) 126#32) := by
  pointwise [expOf]

theorem exp_apply (v0 : Vec Ideal S256x8960 .bf16) (r : Fin 256) :
    k1_pay4 (F := Ideal) v0 (ix2 r (0 : Fin 1)) = Quant.kerE (Quant.rowX fun k => v0 (ix2 r k)) := by
  rw [pay4_eq, expOf_apply, countOf_apply, rowX_apply]
  rfl

/-- The scale word assembled from an exponent. -/
def scaleOf (e : IVec S256x1 32) : FVec Ideal S256x1 .f32 :=
  bitcastToFloat .f32 (shli (addi e (broadcast S256x1 127#32)) (broadcast S256x1 23#32))

/-- The row's values times the inverse scale word assembled from an exponent. -/
def scaledOf (x : FVec Ideal S256x8960 .bf16) (e : IVec S256x1 32) : FVec Ideal S256x8960 .f32 :=
  mulf (extf .f32 x bitsLt_bf16_f32) (broadcastTo S256x8960
    (bitcastToFloat .f32 (shli (subi (broadcast S256x1 127#32) e) (broadcast S256x1 23#32)) : FVec Ideal S256x1 .f32) broadcasts_S256x1_S256x8960)

theorem pay5_eq (v0 : Vec Ideal S256x8960 .bf16) : k1_pay5 (F := Ideal) v0 = scaleOf (k1_pay4 (F := Ideal) v0) := rfl
theorem pay6_eq (v0 : Vec Ideal S256x8960 .bf16) : k1_pay6 (F := Ideal) v0 = scaledOf (k1_pay3 v0) (k1_pay4 (F := Ideal) v0) := rfl

theorem scaleOf_apply (e : IVec S256x1 32) (r : Fin 256) :
    scaleOf e (ix2 r (0 : Fin 1)) = Ideal.ofBits .f32 (IntOp.shli .vector (IntOp.addi (e (ix2 r (0 : Fin 1))) 127#32) 23#32) := by
  pointwise [scaleOf]

theorem scaledOf_apply (x : FVec Ideal S256x8960 .bf16) (e : IVec S256x1 32) (r : Fin 256) (k : Fin 8960) :
    scaledOf x e (ix2 r k) = x (ix2 r k) * Ideal.ofBits .f32 (IntOp.shli .vector (IntOp.subi 127#32 (e (ix2 r (0 : Fin 1)))) 23#32) := by
  pointwise [scaledOf]

theorem pay3_apply (v0 : Vec Ideal S256x8960 .bf16) (r : Fin 256) (k : Fin 8960) :
    k1_pay3 (F := Ideal) v0 (ix2 r k) = v0 (ix2 r k) := by
  pointwise [k1_pay3]

/-- The scale of row `r` of the block. -/
theorem scale_apply (v0 : Vec Ideal S256x8960 .bf16) (r : Fin 256) :
    k1_pay5 (F := Ideal) v0 (ix2 r (0 : Fin 1)) = Quant.kerScale (Quant.rowX fun k => v0 (ix2 r k)) := by
  rw [pay5_eq, scaleOf_apply, exp_apply]
  rfl

theorem clip_apply (v : FVec Ideal S256x8960 .f32) (a b : Ideal .f32) (r : Fin 256) (k : Fin 8960) :
    k1_pay1 (F := Ideal) v a b (ix2 r k) = min b (max a (v (ix2 r k))) := by
  pointwise [k1_pay1]

/-- The code at `(r, k)` of the block. -/
theorem codes_apply (v0 : Vec Ideal S256x8960 .bf16) (r : Fin 256) (k : Fin 8960) :
    k1_pay1 (F := Ideal) (k1_pay6 v0) (Scalar.ofBits .f32 0xC7600000#32) (Scalar.ofBits .f32 0x47600000#32) (ix2 r k)
      = min (Ideal.ofBits .f32 0x47600000#32) (max (Ideal.ofBits .f32 0xC7600000#32)
          (v0 (ix2 r k) * Quant.kerInv (Quant.rowX fun k => v0 (ix2 r k)))) := by
  rw [clip_apply, pay6_eq, scaledOf_apply, pay3_apply, exp_apply]
  rfl

/-- The entry `(r, o)` of the block's product: the codes times the weights, rescaled by the row and the global scale. -/
theorem dx_apply (v33 : FVec Ideal S256x1 .f32) (v49 : Vec Ideal S256x8960 .fp8e5m2) (v52 : Vec Ideal S8960x1536 .bf16) (v57 : Elt Ideal .f32)
    (r : Fin 256) (o : Fin 1536) :
    k1_pay2 (F := Ideal) v33 v49 v52 v57 (ix2 r o)
      = (∑ x : Fin 8960, v49 (ix2 r x) * v52 (ix2 x o)) * v33 (ix2 r (0 : Fin 1)) * v57 := by
  pointwise [k1_pay2]

end Cert.KernelIdeal.Block

end
-- ==== Proof.Nibble.lean ====
/-
  One packed weight. The kernel rearranges a byte's two four-bit codes into two eight-bit floats whose values are the
  four-bit values divided by 64; the reference selects the value bit by bit. For each of the 256 bytes and either half, the
  kernel's value is the reference's divided by 64, and the division cancels against the factor 64 the kernel puts on the
  block scale.
-/
module

public import Idealize.ShloMosaic.PureOps
public import Idealize.ShloMosaic.Lib.BitcastPair
public import Idealize.ShloMosaic.Lib.Pointwise

@[expose] public section

noncomputable section

namespace Cert.Nibble

open Idealize.ShloMosaic

/-- The sixteen-bit word the kernel makes of a byte: the low half's float in the low byte, the high half's in the high. -/
def word (b : BitVec 8) : BitVec 16 :=
  BitVec.setWidth 16 (IntOp.ori
    (IntOp.ori (IntOp.shli .vector (IntOp.andi (b.setWidth 32) 8#32) 4#32) (IntOp.shli .vector (IntOp.andi (b.setWidth 32) 7#32) 2#32))
    (IntOp.ori (IntOp.shli .vector (IntOp.andi (b.setWidth 32) 128#32) 8#32) (IntOp.shli .vector (IntOp.andi (b.setWidth 32) 112#32) 6#32)))

/-- The half `p` (0 low, 1 high) of a byte as the kernel's eight-bit float word. -/
def code (b : BitVec 8) (p : ℕ) : BitVec 8 := (word b).extractLsb' (8 * p) 8

/-- The half `p` of a byte as the reference's field. -/
def field (b : BitVec 8) (p : Fin 2) : BitVec 32 :=
  if p = 0 then IntOp.andi (b.setWidth 32) 15#32 else IntOp.shrsi .host (b.setWidth 32) 4#32

/-- Bit `i` of a field, as the reference tests it. -/
def bit (f : BitVec 32) (i : BitVec 32) : BitVec 1 := IntOp.cmpi .eq (IntOp.andi (IntOp.shrsi .host f i) 1#32) 1#32

/-- The reference's magnitude of a field. -/
def mag (f : BitVec 32) : EReal :=
  Scalar.select (bit f 2#32)
    (Scalar.select (bit f 1#32) (Scalar.select (bit f 0#32) (Ideal.ofBits .bf16 0x40C0#16) (Ideal.ofBits .bf16 0x4080#16))
      (Scalar.select (bit f 0#32) (Ideal.ofBits .bf16 0x4040#16) (Ideal.ofBits .bf16 0x4000#16)))
    (Scalar.select (bit f 1#32) (Scalar.select (bit f 0#32) (Ideal.ofBits .bf16 0x3FC0#16) (Ideal.ofBits .bf16 0x3F80#16))
      (Scalar.select (bit f 0#32) (Ideal.ofBits .bf16 0x3F00#16) (Ideal.ofBits .bf16 0x0000#16)))

/-- The reference's value of a field. -/
def val (f : BitVec 32) : EReal := Scalar.select (bit f 3#32) (-(mag f)) (mag f)

/-- The four-bit code of the half `p` of a byte. -/
def nib (b : BitVec 8) (p : Fin 2) : Fin 16 := ⟨b.toNat / 16 ^ p.val % 16, Nat.mod_lt _ (by decide)⟩

/-- The kernel's float word of a four-bit code. -/
def nibCode (n : Fin 16) : BitVec 8 := BitVec.ofNat 8 (n.val / 8 * 128 + n.val % 8 * 4)

theorem code_eq : ∀ (b : BitVec 8) (p : Fin 2), code b p.val = nibCode (nib b p) := by decide +kernel
theorem field_eq : ∀ (b : BitVec 8) (p : Fin 2), field b p = BitVec.ofNat 32 (nib b p).val := by decide +kernel

/-- The sixteen values of a four-bit code. -/
def rv : Fin 16 → ℝ := ![0, 1/2, 1, 3/2, 2, 3, 4, 6, 0, -(1/2), -1, -(3/2), -2, -3, -4, -6]

theorem c6 : Ideal.ofBits .bf16 0x40C0#16 = ((6 : ℝ) : EReal) := by simp [Ideal.ofBits, Ideal.ieee]; norm_num; rw [← EReal.coe_mul]; norm_num
theorem c4 : Ideal.ofBits .bf16 0x4080#16 = ((4 : ℝ) : EReal) := by simp [Ideal.ofBits, Ideal.ieee]; norm_num; rw [← EReal.coe_mul]; norm_num
theorem c3 : Ideal.ofBits .bf16 0x4040#16 = ((3 : ℝ) : EReal) := by simp [Ideal.ofBits, Ideal.ieee]; norm_num; rw [← EReal.coe_mul]; norm_num
theorem c2 : Ideal.ofBits .bf16 0x4000#16 = ((2 : ℝ) : EReal) := by simp [Ideal.ofBits, Ideal.ieee]; norm_num; rw [← EReal.coe_mul]; norm_num
theorem c15 : Ideal.ofBits .bf16 0x3FC0#16 = ((3/2 : ℝ) : EReal) := by simp [Ideal.ofBits, Ideal.ieee]; norm_num; rw [← EReal.coe_mul]; norm_num
theorem c1 : Ideal.ofBits .bf16 0x3F80#16 = ((1 : ℝ) : EReal) := by simp [Ideal.ofBits, Ideal.ieee]; norm_num; rw [← EReal.coe_mul]; norm_num
theorem c05 : Ideal.ofBits .bf16 0x3F00#16 = ((1/2 : ℝ) : EReal) := by simp [Ideal.ofBits, Ideal.ieee]; norm_num; rw [← EReal.coe_mul]; norm_num
theorem c0 : Ideal.ofBits .bf16 0x0000#16 = ((0 : ℝ) : EReal) := by simp [Ideal.ofBits, Ideal.ieee]

theorem bits : ∀ n : Fin 16, ∀ i : Fin 4, bit (BitVec.ofNat 32 n.val) (BitVec.ofNat 32 i.val) = BitVec.ofNat 1 (n.val / 2 ^ i.val) := by
  decide +kernel

theorem sel1 (a b : EReal) : Scalar.select (1#1) a b = a := rfl
theorem sel0 (a b : EReal) : Scalar.select (0#1) a b = b := rfl

theorem val_eq (n : Fin 16) : val (BitVec.ofNat 32 n.val) = ((rv n : ℝ) : EReal) := by
  have b0 := bits n 0
  have b1 := bits n 1
  have b2 := bits n 2
  have b3 := bits n 3
  change bit _ 0#32 = _ at b0
  change bit _ 1#32 = _ at b1
  change bit _ 2#32 = _ at b2
  change bit _ 3#32 = _ at b3
  unfold val mag
  rw [b0, b1, b2, b3, c6, c4, c3, c2, c15, c1, c05, c0]
  fin_cases n <;> simp [sel1, sel0, rv]

theorem fp_eq (n : Fin 16) : Ideal.ofBits .fp8e4m3 (nibCode n) = ((rv n / 64 : ℝ) : EReal) := by
  fin_cases n <;> simp [Ideal.ofBits, Ideal.e4m3fn, nibCode, rv] <;> norm_num <;>
    (try rw [← EReal.coe_mul]) <;> (try rw [← EReal.coe_neg]) <;> norm_num

theorem c64 : Ideal.ofBits .f32 0x42800000#32 = ((64 : ℝ) : EReal) := by simp [Ideal.ofBits, Ideal.ieee]; norm_num; rw [← EReal.coe_mul]; norm_num

/-- The kernel's weight times 64 times the block scale is the reference's weight times the block scale. -/
theorem weight_eq (b : BitVec 8) (p : Fin 2) (s : EReal) :
    Ideal.ofBits .fp8e4m3 (code b p.val) * (s * Ideal.ofBits .f32 0x42800000#32) = val (field b p) * s := by
  have h1 : Ideal.ofBits .fp8e4m3 (code b p.val) = ((rv (nib b p) / 64 : ℝ) : EReal) :=
    (congrArg (Ideal.ofBits .fp8e4m3) (code_eq b p)).trans (fp_eq _)
  rw [h1, field_eq, val_eq, c64, mul_comm s, ← mul_assoc, ← EReal.coe_mul]
  congr 3
  ring

/-- Two rows of sixteen-bit words read as four rows of bytes by way of 32-bit words: row `q` is half `q % 2` of the
    sixteen-bit row `q / 2`. -/
theorem bitcast_16_32_8 (x : (⟨2, ![128, 1536]⟩ : Shape).Idx → BitVec 16)
    (h : (⟨2, ![128, 1536]⟩ : Shape).Bitcasts 16 ⟨2, ![64, 1536]⟩ 32) (h' : (⟨2, ![64, 1536]⟩ : Shape).Bitcasts 32 ⟨2, ![256, 1536]⟩ 8)
    (q : Fin 256) (o : Fin 1536) :
    bitcast ⟨2, ![256, 1536]⟩ 8 (bitcast ⟨2, ![64, 1536]⟩ 32 x h) h' (ix2 q o)
      = (x (ix2 (⟨q.val / 2, by omega⟩ : Fin 128) o)).extractLsb' (8 * (q.val % 2)) 8 := by
  apply BitVec.eq_of_getLsbD_eq
  intro i hi
  rw [bitcast_getLsbD _ h' _ i hi (by decide), BitVec.getLsbD_extractLsb', bitcast_getLsbD _ h _ _ (Nat.mod_lt _ (by decide)) (by decide)]
  have r1 : Shape.row (⟨2, ![256, 1536]⟩ : Shape) (ix2 q o) = q.val := rfl
  have hi8 : decide (i < 8) = true := by simpa using hi
  rw [hi8, Bool.true_and]
  have key : ∀ (a : (⟨2, ![64, 1536]⟩ : Shape).Idx) (p : Nat) (hp) (m : Nat), Shape.row (⟨2, ![64, 1536]⟩ : Shape) a = (q.val * 8 + i) / 32 →
      p = q.val / 2 → (a 1).val = o.val → m = 8 * (q.val % 2) + i →
      (x (h.srcIdx a p hp)).getLsbD m = (x (ix2 (⟨q.val / 2, by omega⟩ : Fin 128) o)).getLsbD (8 * (q.val % 2) + i) := by
    intro a p hp m ha hpe ho hm
    subst hm
    congr 2
    funext c
    match c with
    | ⟨0, _⟩ => exact Fin.ext ((h.srcIdx_row _ _ _ ⟨0, Nat.zero_lt_two⟩ rfl).trans hpe)
    | ⟨1, _⟩ => exact Fin.ext ((h.srcIdx_other _ _ _ ⟨1, Nat.one_lt_two⟩ (by show ¬ 1 + 2 = 2; omega)).trans ho)
  have hrow : ∀ (p : Nat) (hp), Shape.row (⟨2, ![64, 1536]⟩ : Shape) (h'.srcIdx (ix2 q o) p hp) = p := fun p hp =>
    h'.srcIdx_row _ _ _ ⟨0, Nat.zero_lt_two⟩ rfl
  apply key
  · rw [hrow, r1]
  · rw [hrow, r1]; omega
  · exact h'.srcIdx_other _ _ _ ⟨1, Nat.one_lt_two⟩ (by show ¬ 1 + 2 = 2; omega)
  · rw [hrow, r1]; omega

end Cert.Nibble

end
-- ==== Proof.DecodeBlock.lean ====
/-
  The decoding kernel's stored block, read at an index: row `q` of a block of 256 weight rows comes from half `q % 2` of
  the byte row `q / 2`, times 64, times the block scale of its sixteen rows and sixteen columns. The sixteen stores of
  sixteen rows each tile the block.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Nibble
public import Idealize.ShloMosaic.Lib.Pipeline.Value
public import Idealize.ShloMosaic.Lib.Pointwise

@[expose] public section

set_option maxRecDepth 16384

noncomputable section

namespace Cert.KernelIdeal.Decode

open Idealize.ShloMosaic Idealize.ShloMosaic.TcCoe
open Cert.KernelIdeal Cert.KernelIdeal.Gen

/-- The sixteen-bit words the kernel makes of the bytes. -/
def words (v0 : Vec Ideal S128x1536 .i8) : IVec S128x1536 16 :=
  let v2 : IVec S128x1536 32 := extui 32 (shapeCast S128x1536 v0 shapeCasts_S128x1536_S128x1536 : IVec S128x1536 8) natLt_8_32
  trunci 16 (ori
    (ori (shli (andi v2 (broadcast S128x1536 8#32)) (broadcast S128x1536 4#32)) (shli (andi v2 (broadcast S128x1536 7#32)) (broadcast S128x1536 2#32)))
    (ori (shli (andi v2 (broadcast S128x1536 128#32)) (broadcast S128x1536 8#32)) (shli (andi v2 (broadcast S128x1536 112#32)) (broadcast S128x1536 6#32)))) natLt_16_32

theorem words_apply (v0 : Vec Ideal S128x1536 .i8) (i : Fin 128) (o : Fin 1536) :
    words v0 (ix2 i o) = Nibble.word (v0 (ix2 i o)) := by
  pointwise [words]
  rfl

/-- The decoded float at `(q, o)`, before the block scale. -/
theorem pay5_apply (v0 : Vec Ideal S128x1536 .i8) (q : Fin 256) (o : Fin 1536) :
    k0_pay5 (F := Ideal) v0 (ix2 q o)
      = Ideal.ofBits .fp8e4m3 (Nibble.code (v0 (ix2 (⟨q.val / 2, by omega⟩ : Fin 128) o)) (q.val % 2)) := by
  show Ideal.ofBits .fp8e4m3 (bitcast S256x1536 8 (bitcast S64x1536 32 (words v0) bitcasts_S128x1536_w16_S64x1536_w32) bitcasts_S64x1536_w32_S256x1536_w8 (ix2 q o)) = _
  rw [Nibble.bitcast_16_32_8, words_apply]
  rfl

theorem pay6_apply (v : Vec Ideal S16x96 .fp8e4m3) (b : Fin 16) (c : Fin 96) :
    k0_pay6 (F := Ideal) v (ix2 b c) = v (ix2 b c) * Ideal.ofBits .f32 0x42800000#32 := by
  pointwise [k0_pay6]

/-- The quotient of the column index by sixteen, as the kernel writes a floor division. -/
def quot : IVec S96x1536 32 :=
  let v32 : IVec S96x1536 32 := iota .tc S96x1536 32 [1] iota_S96x1536_d1_w32
  select (andi (cmpi .ne k0_pay8 (broadcast S96x1536 (Scalar.subi (Scalar.extui (Scalar.cmpi .sgt 16#32 0#32)) (Scalar.extui (Scalar.cmpi .slt 16#32 0#32)))))
      (cmpi .ne (remsi v32 (broadcast S96x1536 16#32)) (broadcast S96x1536 0#32)))
    (subi k0_pay7 (broadcast S96x1536 1#32)) k0_pay7

/-- The one-hot matrix that repeats a block scale over its sixteen columns. -/
def hot : FVec Ideal S96x1536 .bf16 :=
  truncf .bf16 (sitofp .f32 (extui 32 (cmpi .eq (iota .tc S96x1536 32 [0] iota_S96x1536_d0_w32) quot) natLt_1_32) : FVec Ideal S96x1536 .f32) bitsLt_bf16_f32

theorem quot_words : ∀ o : Fin 1536,
    Scalar.select (IntOp.andi (IntOp.cmpi .ne
          (IntOp.subi ((IntOp.cmpi .sgt (BitVec.ofNat 32 o.val) 0#32).setWidth 32) ((IntOp.cmpi .slt (BitVec.ofNat 32 o.val) 0#32).setWidth 32))
          (Scalar.subi (Scalar.extui (Scalar.cmpi .sgt 16#32 0#32)) (Scalar.extui (Scalar.cmpi .slt 16#32 0#32))))
        (IntOp.cmpi .ne (IntOp.remsi .vector (BitVec.ofNat 32 o.val) 16#32) 0#32))
      (IntOp.subi (IntOp.divsi .vector (BitVec.ofNat 32 o.val) 16#32) 1#32) (IntOp.divsi .vector (BitVec.ofNat 32 o.val) 16#32)
      = BitVec.ofNat 32 (o.val / 16) := by decide +kernel

theorem quot_apply (i : Fin 96) (o : Fin 1536) : quot (ix2 i o) = BitVec.ofNat 32 (o.val / 16) := by
  pointwise [quot, k0_pay7, k0_pay8]
  exact quot_words o

theorem eq_words : ∀ i j : Fin 96, IntOp.cmpi .eq (BitVec.ofNat 32 i.val) (BitVec.ofNat 32 j.val) = if i = j then 1#1 else 0#1 := by
  decide +kernel

theorem hot_apply (i : Fin 96) (o : Fin 1536) : hot (ix2 i o) = if i = ⟨o.val / 16, by omega⟩ then (1 : EReal) else 0 := by
  have e : hot (ix2 i o) = ((((IntOp.cmpi .eq (BitVec.ofNat 32 i.val) (quot (ix2 i o))).setWidth 32).toInt : ℝ) : EReal) := by
    unfold hot
    generalize quot = q
    pointwise
    rfl
  rw [e, quot_apply]
  have := eq_words i ⟨o.val / 16, by omega⟩
  simp only at this
  rw [this]
  split <;> simp

/-- The matrix of block scales, one row per sixteen weight rows. -/
def scales (v30 : FVec Ideal S16x96 .f32) : FVec Ideal S16x1536 .bf16 :=
  truncf .bf16 (matmul dot_S16x96_S96x1536_S16x1536_1_0_0_1_n_n none (truncf .bf16 v30 bitsLt_bf16_f32) hot (constant S16x1536 .f32 0x00000000#32)) bitsLt_bf16_f32

theorem scales_apply (v30 : FVec Ideal S16x96 .f32) (b : Fin 16) (o : Fin 1536) :
    scales v30 (ix2 b o) = v30 (ix2 b ⟨o.val / 16, by omega⟩) := by
  have e : scales v30 (ix2 b o) = ∑ i : Fin 96, v30 (ix2 b i) * hot (ix2 i o) := by
    unfold scales
    generalize hot = h
    pointwise
  rw [e, Finset.sum_eq_single (⟨o.val / 16, by omega⟩ : Fin 96)]
  · rw [hot_apply, if_pos rfl, mul_one]
  · intro i _ hi
    rw [hot_apply, if_neg hi, mul_zero]
  · intro h; exact absurd (Finset.mem_univ _) h

theorem pay9_eq (v30 : FVec Ideal S16x96 .f32) :
    k0_pay9 (F := Ideal) v30 (iota .tc S96x1536 32 [0] iota_S96x1536_d0_w32) (iota .tc S96x1536 32 [1] iota_S96x1536_d1_w32) 16#32 k0_pay7 k0_pay8 0#32
      = scales v30 := rfl

/-- The decoded block: float times block scale. -/
def blk (x0 : Vec Ideal S128x1536 .i8) (x1 : Vec Ideal S16x96 .fp8e4m3) : Vec Ideal S256x1536 .bf16 := fun y =>
  k0_pay5 (F := Ideal) x0 y * scales (k0_pay6 x1) (ix2 (⟨(y 0).val / 16, by have := (y 0).isLt; simp at this; omega⟩ : Fin 16) (y 1))

theorem emb_unit (off : ℕ) (h : ∀ a, (![off, 0] : Fin 2 → ℕ) a + S16x1536.size a ≤ S256x1536.size a) (r : Fin 16) (o : Fin 1536) (hlt : off + r.val < 256) :
    (Rect.unit (s := S256x1536) ![off, 0] S16x1536.size h).emb (ix2 r o) = ix2 (⟨off + r.val, hlt⟩ : Fin 256) o := by
  funext a
  match a with
  | ⟨0, _⟩ => exact Fin.ext (by show off + 1 * r.val = off + r.val; omega)
  | ⟨1, _⟩ => exact Fin.ext (by show 0 + 1 * o.val = o.val; omega)

/-- One store of sixteen rows holds the decoded block's rows. -/
theorem piece (x0 : Vec Ideal S128x1536 .i8) (x1 : Vec Ideal S16x96 .fp8e4m3) (b : Fin 16) (off : ℕ) (hoff : off = 16 * b.val)
    (h : ∀ a, (![off, 0] : Fin 2 → ℕ) a + S16x1536.size a ≤ S256x1536.size a) (p : FVec Ideal S16x1536 .bf16)
    (hp : ∀ (r : Fin 16) (o : Fin 1536), p (ix2 r o)
      = k0_pay5 (F := Ideal) x0 (ix2 (⟨off + r.val, by omega⟩ : Fin 256) o) * scales (k0_pay6 x1) (ix2 b o))
    (x : (Rect.unit (s := S256x1536) ![off, 0] S16x1536.size h).shape.Idx) :
    p x = blk x0 x1 ((Rect.unit (s := S256x1536) ![off, 0] S16x1536.size h).emb x) := by
  obtain ⟨r, o, rfl⟩ : ∃ (r : Fin 16) (o : Fin 1536), x = ix2 r o := ⟨x 0, x 1, eq_ix2 x⟩
  rw [emb_unit off h r o (by omega)]
  refine (hp r o).trans ?_
  unfold blk
  congr 3
  exact Fin.ext (by show b.val = (off + r.val) / 16; omega)

variable (v25 : FVec Ideal S256x1536 .bf16) (v63 : FVec Ideal S16x1536 .bf16) (r : Fin 16) (o : Fin 1536)

theorem p17 : k0_pay17 v25 v63 (ix2 r o) = v25 (ix2 (⟨80 + r.val, by omega⟩ : Fin 256) o) * v63 (ix2 (5 : Fin 16) o) := by pointwise [k0_pay17]
theorem p18 : k0_pay18 v25 v63 (ix2 r o) = v25 (ix2 (⟨96 + r.val, by omega⟩ : Fin 256) o) * v63 (ix2 (6 : Fin 16) o) := by pointwise [k0_pay18]
theorem p19 : k0_pay19 v25 v63 (ix2 r o) = v25 (ix2 (⟨112 + r.val, by omega⟩ : Fin 256) o) * v63 (ix2 (7 : Fin 16) o) := by pointwise [k0_pay19]
theorem p20 : k0_pay20 v25 v63 (ix2 r o) = v25 (ix2 (⟨128 + r.val, by omega⟩ : Fin 256) o) * v63 (ix2 (8 : Fin 16) o) := by pointwise [k0_pay20]
theorem p21 : k0_pay21 v25 v63 (ix2 r o) = v25 (ix2 (⟨144 + r.val, by omega⟩ : Fin 256) o) * v63 (ix2 (9 : Fin 16) o) := by pointwise [k0_pay21]
theorem p22 : k0_pay22 v25 v63 (ix2 r o) = v25 (ix2 (⟨160 + r.val, by omega⟩ : Fin 256) o) * v63 (ix2 (10 : Fin 16) o) := by pointwise [k0_pay22]
theorem p23 : k0_pay23 v25 v63 (ix2 r o) = v25 (ix2 (⟨176 + r.val, by omega⟩ : Fin 256) o) * v63 (ix2 (11 : Fin 16) o) := by pointwise [k0_pay23]
theorem p1 : k0_pay1 v25 v63 (ix2 r o) = v25 (ix2 (⟨192 + r.val, by omega⟩ : Fin 256) o) * v63 (ix2 (12 : Fin 16) o) := by pointwise [k0_pay1]
theorem p2 : k0_pay2 v25 v63 (ix2 r o) = v25 (ix2 (⟨208 + r.val, by omega⟩ : Fin 256) o) * v63 (ix2 (13 : Fin 16) o) := by pointwise [k0_pay2]
theorem p3 : k0_pay3 v25 v63 (ix2 r o) = v25 (ix2 (⟨224 + r.val, by omega⟩ : Fin 256) o) * v63 (ix2 (14 : Fin 16) o) := by pointwise [k0_pay3]
theorem p4 : k0_pay4 v25 v63 (ix2 r o) = v25 (ix2 (⟨240 + r.val, by omega⟩ : Fin 256) o) * v63 (ix2 (15 : Fin 16) o) := by pointwise [k0_pay4]

variable (v30 : FVec Ideal S16x96 .f32) (v31 v32 v34 v41 : IVec S96x1536 32)

theorem p10 : k0_pay10 v25 v30 v31 v32 16#32 v34 v41 0#32 (ix2 r o) = v25 (ix2 (⟨0 + r.val, by omega⟩ : Fin 256) o) * k0_pay9 v30 v31 v32 16#32 v34 v41 0#32 (ix2 (0 : Fin 16) o) := by
  unfold k0_pay10
  generalize k0_pay9 v30 v31 v32 16#32 v34 v41 0#32 = v63
  pointwise
theorem p11 : k0_pay11 v25 v30 v31 v32 16#32 v34 v41 0#32 (ix2 r o) = v25 (ix2 (⟨16 + r.val, by omega⟩ : Fin 256) o) * k0_pay9 v30 v31 v32 16#32 v34 v41 0#32 (ix2 (1 : Fin 16) o) := by
  unfold k0_pay11
  generalize k0_pay9 v30 v31 v32 16#32 v34 v41 0#32 = v63
  pointwise
theorem p12 : k0_pay12 v25 v30 v31 v32 16#32 v34 v41 0#32 (ix2 r o) = v25 (ix2 (⟨32 + r.val, by omega⟩ : Fin 256) o) * k0_pay9 v30 v31 v32 16#32 v34 v41 0#32 (ix2 (2 : Fin 16) o) := by
  unfold k0_pay12
  generalize k0_pay9 v30 v31 v32 16#32 v34 v41 0#32 = v63
  pointwise
theorem p13 : k0_pay13 v25 v30 v31 v32 16#32 v34 v41 0#32 (ix2 r o) = v25 (ix2 (⟨48 + r.val, by omega⟩ : Fin 256) o) * k0_pay9 v30 v31 v32 16#32 v34 v41 0#32 (ix2 (3 : Fin 16) o) := by
  unfold k0_pay13
  generalize k0_pay9 v30 v31 v32 16#32 v34 v41 0#32 = v63
  pointwise
theorem p16 : k0_pay16 (k0_pay14 v25) (k0_pay15 v30 v31 v32 16#32 v34 v41 0#32) (ix2 r o) = v25 (ix2 (⟨64 + r.val, by omega⟩ : Fin 256) o) * k0_pay9 v30 v31 v32 16#32 v34 v41 0#32 (ix2 (4 : Fin 16) o) := by
  unfold k0_pay16 k0_pay14 k0_pay15
  generalize k0_pay9 v30 v31 v32 16#32 v34 v41 0#32 = v63
  pointwise

theorem hz : (![0, 0] : Fin 2 → Nat) = fun _ => 0 := funext fun a => by fin_cases a <;> rfl

/-- What the decoding kernel leaves in its output block. -/
theorem out_eq (x0 : Vec Ideal S128x1536 .i8) (x1 : Vec Ideal S16x96 .fp8e4m3) : out0_2 (F := Ideal) x0 x1 = blk x0 x1 := by
  have l0 : View.ld x0 r0_0 = x0 := View.ld_unit_zero (S := S128x1536) hz _ x0
  have l1 : View.ld x1 r0_1 = x1 := View.ld_unit_zero (S := S16x96) hz _ x1
  have e26 : k0_pay26 (F := Ideal) x0 x1 = k0_pay5 x0 := by unfold k0_pay26; rw [l0]
  have e27 : k0_pay27 (F := Ideal) x0 x1 = k0_pay6 x1 := by unfold k0_pay27; rw [l1]
  have e30 : k0_pay30 (F := Ideal) x0 x1 = scales (k0_pay6 x1) := by unfold k0_pay30; rw [e27]; exact pay9_eq _
  have e9 : k0_pay9 (F := Ideal) (k0_pay6 x1) (k0_pay24 x0 x1) (k0_pay25 x0 x1) 16#32 (k0_pay28 x0 x1) (k0_pay29 x0 x1) 0#32 = scales (k0_pay6 x1) := pay9_eq _
  funext y
  unfold out0_2
  rw [e26, e27, e30]
  refine View.canon_apply_of_pieces (blk x0 x1) _ ?_ y (cover0_2 _ _ _ _ _ _ _ _ _ _ _ _ _ _ _ _ y)
  intro pc hpc
  rcases List.mem_cons.mp hpc with rfl | hpc
  · exact fun x => piece x0 x1 15 240 rfl inb_S256x1536_S16x1536_240_0 _ (p4 _ _) x
  rcases List.mem_cons.mp hpc with rfl | hpc
  · exact fun x => piece x0 x1 14 224 rfl inb_S256x1536_S16x1536_224_0 _ (p3 _ _) x
  rcases List.mem_cons.mp hpc with rfl | hpc
  · exact fun x => piece x0 x1 13 208 rfl inb_S256x1536_S16x1536_208_0 _ (p2 _ _) x
  rcases List.mem_cons.mp hpc with rfl | hpc
  · exact fun x => piece x0 x1 12 192 rfl inb_S256x1536_S16x1536_192_0 _ (p1 _ _) x
  rcases List.mem_cons.mp hpc with rfl | hpc
  · exact fun x => piece x0 x1 11 176 rfl inb_S256x1536_S16x1536_176_0 _ (p23 _ _) x
  rcases List.mem_cons.mp hpc with rfl | hpc
  · exact fun x => piece x0 x1 10 160 rfl inb_S256x1536_S16x1536_160_0 _ (p22 _ _) x
  rcases List.mem_cons.mp hpc with rfl | hpc
  · exact fun x => piece x0 x1 9 144 rfl inb_S256x1536_S16x1536_144_0 _ (p21 _ _) x
  rcases List.mem_cons.mp hpc with rfl | hpc
  · exact fun x => piece x0 x1 8 128 rfl inb_S256x1536_S16x1536_128_0 _ (p20 _ _) x
  rcases List.mem_cons.mp hpc with rfl | hpc
  · exact fun x => piece x0 x1 7 112 rfl inb_S256x1536_S16x1536_112_0 _ (p19 _ _) x
  rcases List.mem_cons.mp hpc with rfl | hpc
  · exact fun x => piece x0 x1 6 96 rfl inb_S256x1536_S16x1536_96_0 _ (p18 _ _) x
  rcases List.mem_cons.mp hpc with rfl | hpc
  · exact fun x => piece x0 x1 5 80 rfl inb_S256x1536_S16x1536_80_0 _ (p17 _ _) x
  rcases List.mem_cons.mp hpc with rfl | hpc
  · exact fun x => piece x0 x1 4 64 rfl inb_S256x1536_S16x1536_64_0 _ (fun r o => (p16 _ r o _ _ _ _ _).trans (by rw [e9])) x
  rcases List.mem_cons.mp hpc with rfl | hpc
  · exact fun x => piece x0 x1 3 48 rfl inb_S256x1536_S16x1536_48_0 _ (fun r o => (p13 _ r o _ _ _ _ _).trans (by rw [e9])) x
  rcases List.mem_cons.mp hpc with rfl | hpc
  · exact fun x => piece x0 x1 2 32 rfl inb_S256x1536_S16x1536_32_0 _ (fun r o => (p12 _ r o _ _ _ _ _).trans (by rw [e9])) x
  rcases List.mem_cons.mp hpc with rfl | hpc
  · exact fun x => piece x0 x1 1 16 rfl inb_S256x1536_S16x1536_16_0 _ (fun r o => (p11 _ r o _ _ _ _ _).trans (by rw [e9])) x
  rcases List.mem_cons.mp hpc with rfl | hpc
  · exact fun x => piece x0 x1 0 0 rfl inb_S256x1536_S16x1536_0_0 _ (fun r o => (p10 _ r o _ _ _ _ _).trans (by rw [e9])) x
  nomatch hpc

/-- The decoded block at `(q, o)`: the reference's weight times its block scale. -/
theorem blk_apply (x0 : Vec Ideal S128x1536 .i8) (x1 : Vec Ideal S16x96 .fp8e4m3) (q : Fin 256) (o : Fin 1536) :
    blk x0 x1 (ix2 q o)
      = Nibble.val (Nibble.field (x0 (ix2 (⟨q.val / 2, by omega⟩ : Fin 128) o)) ⟨q.val % 2, Nat.mod_lt _ (by decide)⟩)
          * x1 (ix2 (⟨q.val / 16, by omega⟩ : Fin 16) (⟨o.val / 16, by omega⟩ : Fin 96)) := by
  unfold blk
  rw [pay5_apply]
  have : scales (k0_pay6 x1) (ix2 (⟨((ix2 q o : S256x1536.Idx) 0).val / 16, by have := q.isLt; show q.val / 16 < 16; omega⟩ : Fin 16) ((ix2 q o : S256x1536.Idx) 1))
      = x1 (ix2 (⟨q.val / 16, by omega⟩ : Fin 16) (⟨o.val / 16, by omega⟩ : Fin 96)) * Ideal.ofBits .f32 0x42800000#32 :=
    (scales_apply _ _ o).trans (pay6_apply _ _ _)
  rw [this]
  exact Nibble.weight_eq _ ⟨q.val % 2, Nat.mod_lt _ (by decide)⟩ _

end Cert.KernelIdeal.Decode

end
-- ==== Proof.KernelOut.lean ====
/-
  What the main kernel leaves in its three output blocks, as functions of its input blocks.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Value
public import Idealize.ShloMosaic.Lib.Pointwise

@[expose] public section

set_option maxRecDepth 16384

noncomputable section

namespace Cert.KernelIdeal.Out

open Idealize.ShloMosaic Idealize.ShloMosaic.TcCoe
open Cert.KernelIdeal Cert.KernelIdeal.Gen

theorem hz : (![0, 0] : Fin 2 → Nat) = fun _ => 0 := funext fun a => by fin_cases a <;> rfl

theorem hz1 : (![0] : Fin 1 → Nat) = fun _ => 0 := funext fun a => by fin_cases a; rfl

variable (c : Dev nD) (i : grid1.Coords)
  (a1 : Memref sig .tc .vmem S256x8960 .bf16) (h1 : a1.IsWhole) (a2 : Memref sig .tc .vmem S8960x1536 .bf16) (h2 : a2.IsWhole)
  (a3 : Memref sig .tc .smem S1 .f32) (h3 : a3.IsWhole) (a4 : Memref sig .tc .vmem S256x1536 .bf16) (h4 : a4.IsWhole)
  (a5 : Memref sig .tc .vmem S256x8960 .fp8e5m2) (h5 : a5.IsWhole) (a6 : Memref sig .tc .vmem S256x1 .f32) (h6 : a6.IsWhole)
  (x0 : Vec Ideal S256x8960 .bf16) (x1 : Vec Ideal S8960x1536 .bf16) (x2 : Vec Ideal S1 .f32)

/-- The scale block. -/
theorem out5 : out1_A_5 (F := Ideal) c i a1 h1 a2 h2 a3 h3 a4 h4 a5 h5 a6 h6 x0 x1 x2 = k1_pay5 x0 := by
  unfold out1_A_5
  rw [View.read_writes_eq_canon _ _ _ (cover1_A_5 c i a1 h1 a2 h2 a3 h3 a4 h4 a5 h5 a6 h6 x0 x1 x2)]
  unfold kernelRun1_A
  dsimp only
  sl_unfold_words
  rw [View.canon_unit_zero hz]
  simp only [View.readAt_eq_ld, h1.read_unread, View.ld_unit_zero (S := S256x8960) hz]

/-- The block of eight-bit codes. -/
theorem out4 : out1_A_4 (F := Ideal) c i a1 h1 a2 h2 a3 h3 a4 h4 a5 h5 a6 h6 x0 x1 x2
    = k1_pay1 (k1_pay6 x0) (Scalar.ofBits .f32 0xC7600000#32) (Scalar.ofBits .f32 0x47600000#32) := by
  unfold out1_A_4
  rw [View.read_writes_eq_canon _ _ _ (cover1_A_4 c i a1 h1 a2 h2 a3 h3 a4 h4 a5 h5 a6 h6 x0 x1 x2)]
  unfold kernelRun1_A
  dsimp only
  sl_unfold_words
  rw [View.canon_unit_zero hz]
  simp only [View.readAt_eq_ld, h1.read_unread, View.ld_unit_zero (S := S256x8960) hz]

/-- The block of products. -/
theorem out3 : out1_A_3 (F := Ideal) c i a1 h1 a2 h2 a3 h3 a4 h4 a5 h5 a6 h6 x0 x1 x2
    = k1_pay2 (k1_pay5 x0) (k1_pay1 (k1_pay6 x0) (Scalar.ofBits .f32 0xC7600000#32) (Scalar.ofBits .f32 0x47600000#32)) x1 (x2 (ix1 (0 : Fin 1))) := by
  unfold out1_A_3
  rw [View.read_writes_eq_canon _ _ _ (cover1_A_3 c i a1 h1 a2 h2 a3 h3 a4 h4 a5 h5 a6 h6 x0 x1 x2)]
  unfold kernelRun1_A
  dsimp only
  sl_unfold_words
  rw [View.canon_unit_zero hz, View.readCov_unit_zero (S := S256x8960) _ hz]
  simp only [View.readAt_eq_ld, h1.read_unread, h2.read_unread, h3.read_unread, View.ld_unit_zero (S := S256x8960) hz, View.ld_unit_zero (S := S8960x1536) hz, View.ld_unit_zero (S := S1) hz1]
  have e : ∀ j k : S1.Idx, j = k := fun j k => funext fun a => Fin.ext (by
    have h1 := (j a).isLt; have h2 := (k a).isLt
    match a with
    | ⟨0, _⟩ => change (j 0).val < 1 at h1; change (k 0).val < 1 at h2; show (j 0).val = (k 0).val; omega)
  exact congrArg _ (congrArg x2 (e _ _))

end Cert.KernelIdeal.Out

end
-- ==== Proof.KernelArr.lean ====
/-
  The kernel's arrays after each of its two grids: the decoded weight after the first, and the three results after the
  second, each written from the arrays the grid finds.
-/
module

public import proofs.«01_k».proof.Proof.MainBlock
public import proofs.«01_k».proof.Proof.DecodeBlock
public import proofs.«01_k».proof.Proof.KernelOut
public import Idealize.ShloMosaic.Lib.Pipeline.ValueKit

@[expose] public section

set_option maxRecDepth 16384

noncomputable section

namespace Cert.KernelIdeal.Arr

open Idealize.ShloMosaic Idealize.ShloMosaic.TcCoe
open Idealize.ShloMosaic.Pipeline (Dat)
open Cert.KernelIdeal Cert.KernelIdeal.Gen

variable (V : (c : Dev nD) → (b : Ref sig .tc) → Buf (Elt Ideal) ((c : Thread nD τ).loc b))

theorem hN0 : cfg0.N = 35 := by decide
theorem hN1 : cfg1.N = 48 := by decide
theorem lt0 (t : Fin cfg0.N) : t.val < 35 := lt_of_lt_of_eq t.isLt hN0
theorem lt1 (t : Fin cfg1.N) : t.val < 48 := lt_of_lt_of_eq t.isLt hN1

/-- The block index of every window of the first grid. -/
theorem idx0 : ∀ t : Fin cfg0.N, win0_0.index t = ![t.val, 0] ∧ win0_1.index t = ![t.val, 0] ∧ win0_2.index t = ![t.val, 0] :=
  (by decide +kernel : ∀ t : Fin grid0.N, _)

/-- The block index of every window of the second grid. -/
theorem idx1 : ∀ t : Fin cfg1.N, win1_0.index t = ![t.val, 0] ∧ win1_1.index t = ![0, 0] ∧ win1_2.index t = ![0]
    ∧ win1_3.index t = ![t.val, 0] ∧ win1_4.index t = ![t.val, 0] ∧ win1_5.index t = ![t.val, 0] :=
  (by decide +kernel : ∀ t : Fin grid1.N, _)

/-! ## The decoded weight -/

/-- The decoded weight from the transposed bytes and the transposed block scales. -/
def weight (b : Vec Ideal S4480x1536 .i8) (s : Vec Ideal S560x96 .fp8e4m3) (k : Fin 8960) (o : Fin 1536) : EReal :=
  Nibble.val (Nibble.field (b (ix2 (⟨k.val / 2, by omega⟩ : Fin 4480) o)) ⟨k.val % 2, Nat.mod_lt _ (by decide)⟩)
    * s (ix2 (⟨k.val / 16, by omega⟩ : Fin 560) (⟨o.val / 16, by omega⟩ : Fin 96))

theorem bytes_block (c : Dev nD) (t : Fin cfg0.N) (a : Fin 128) (o : Fin 1536) :
    (iblk0 V c 0 t : Vec Ideal S128x1536 .i8) (ix2 a o)
      = (V c main_v0 : Vec Ideal S4480x1536 .i8) (ix2 (⟨128 * t.val + a.val, by have := lt0 t; omega⟩ : Fin 4480) o) := by
  unfold iblk0
  rw [View.read_apply]
  show V c main_v0 _ = V c main_v0 _
  congr 1
  funext x
  apply Fin.ext
  have h := (idx0 t).1
  match x with
  | ⟨0, _⟩ => show win0_0.index t 0 * 128 + 1 * a.val = 128 * t.val + a.val; rw [h]; show t.val * 128 + 1 * a.val = _; omega
  | ⟨1, _⟩ => show win0_0.index t 1 * 1536 + 1 * o.val = o.val; rw [h]; show 0 * 1536 + 1 * o.val = _; omega

theorem scales_block (c : Dev nD) (t : Fin cfg0.N) (a : Fin 16) (o : Fin 96) :
    (iblk0 V c 1 t : Vec Ideal S16x96 .fp8e4m3) (ix2 a o)
      = (V c main_v1 : Vec Ideal S560x96 .fp8e4m3) (ix2 (⟨16 * t.val + a.val, by have := lt0 t; omega⟩ : Fin 560) o) := by
  unfold iblk0
  rw [View.read_apply]
  show V c main_v1 _ = V c main_v1 _
  congr 1
  funext x
  apply Fin.ext
  have h := (idx0 t).2.1
  match x with
  | ⟨0, _⟩ => show win0_1.index t 0 * 16 + 1 * a.val = 16 * t.val + a.val; rw [h]; show t.val * 16 + 1 * a.val = _; omega
  | ⟨1, _⟩ => show win0_1.index t 1 * 96 + 1 * o.val = o.val; rw [h]; show 0 * 96 + 1 * o.val = _; omega

/-- The first grid's output array, as a function of the arrays it reads. -/
def weightArr (c : Dev nD) : Vec Ideal S8960x1536 .bf16 := fun i => weight (V c main_v0) (V c main_v1) (i 0) (i 1)

/-- After the first grid the weight array holds the decoded weight. -/
theorem weight_final (c : Dev nD) : (dat0 V c).arrAt 2 cfg0.N = weightArr V c := by
  refine (dat0 V c).arrAt_eq_of_covers 2 (weightArr V c) (by decide +kernel) fun t _ y => ?_
  obtain ⟨q, o, rfl⟩ : ∃ (q : Fin 256) (o : Fin 1536), y = ix2 q o := ⟨y 0, y 1, eq_ix2 y⟩
  have ht : t.val < 35 := lt0 t
  have he : ((cfg0.win 2).blk t).view.emb (ix2 q o) = (ix2 (⟨256 * t.val + q.val, by omega⟩ : Fin 8960) o : S8960x1536.Idx) := by
    funext x
    apply Fin.ext
    have h := (idx0 t).2.2
    match x with
    | ⟨0, _⟩ => show win0_2.index t 0 * 256 + 1 * q.val = 256 * t.val + q.val; rw [h]; show t.val * 256 + 1 * q.val = _; omega
    | ⟨1, _⟩ => show win0_2.index t 1 * 1536 + 1 * o.val = o.val; rw [h]; show 0 * 1536 + 1 * o.val = _; omega
  rw [he]
  show (dat0 V c).after 2 t (ix2 q o) = weight (V c main_v0) (V c main_v1) (⟨256 * t.val + q.val, by omega⟩ : Fin 8960) o
  rw [after0_2, Decode.out_eq, Decode.blk_apply]
  have e1 := bytes_block V c t (⟨q.val / 2, by omega⟩ : Fin 128) o
  have e2 := scales_block V c t (⟨q.val / 16, by omega⟩ : Fin 16) (⟨o.val / 16, by omega⟩ : Fin 96)
  rw [e1, e2]
  unfold weight
  have f1 : (⟨128 * t.val + q.val / 2, by omega⟩ : Fin 4480) = ⟨(256 * t.val + q.val) / 2, by omega⟩ := Fin.ext (by show 128 * t.val + q.val / 2 = (256 * t.val + q.val) / 2; omega)
  have f2 : (⟨16 * t.val + q.val / 16, by omega⟩ : Fin 560) = ⟨(256 * t.val + q.val) / 16, by omega⟩ := Fin.ext (by show 16 * t.val + q.val / 16 = (256 * t.val + q.val) / 16; omega)
  have f3 : (⟨q.val % 2, Nat.mod_lt _ (by decide)⟩ : Fin 2) = ⟨(256 * t.val + q.val) % 2, Nat.mod_lt _ (by decide)⟩ := Fin.ext (by show q.val % 2 = (256 * t.val + q.val) % 2; omega)
  rw [f1, f2, f3]

/-! ## The three results -/

theorem dy_block (c : Dev nD) (t : Fin cfg1.N) (r : Fin 256) (k : Fin 8960) :
    (iblk1 V c 0 t : Vec Ideal S256x8960 .bf16) (ix2 r k)
      = (V c main_v3 : Vec Ideal S12288x8960 .bf16) (ix2 (⟨256 * t.val + r.val, by have := lt1 t; omega⟩ : Fin 12288) k) := by
  unfold iblk1
  rw [View.read_apply]
  show V c main_v3 _ = V c main_v3 _
  congr 1
  funext x
  apply Fin.ext
  have h := (idx1 t).1
  match x with
  | ⟨0, _⟩ => show win1_0.index t 0 * 256 + 1 * r.val = 256 * t.val + r.val; rw [h]; show t.val * 256 + 1 * r.val = _; omega
  | ⟨1, _⟩ => show win1_0.index t 1 * 8960 + 1 * k.val = k.val; rw [h]; show 0 * 8960 + 1 * k.val = _; omega

theorem w_block (c : Dev nD) (t : Fin cfg1.N) (k : Fin 8960) (o : Fin 1536) :
    (iblk1 V c 1 t : Vec Ideal S8960x1536 .bf16) (ix2 k o) = (V c main_v2 : Vec Ideal S8960x1536 .bf16) (ix2 k o) := by
  unfold iblk1
  rw [View.read_apply]
  show V c main_v2 _ = V c main_v2 _
  congr 1
  funext x
  apply Fin.ext
  have h := (idx1 t).2.1
  match x with
  | ⟨0, _⟩ => show win1_1.index t 0 * 8960 + 1 * k.val = k.val; rw [h]; show 0 * 8960 + 1 * k.val = _; omega
  | ⟨1, _⟩ => show win1_1.index t 1 * 1536 + 1 * o.val = o.val; rw [h]; show 0 * 1536 + 1 * o.val = _; omega

theorem g_block (c : Dev nD) (t : Fin cfg1.N) :
    (iblk1 V c 2 t : Vec Ideal S1 .f32) (ix1 (0 : Fin 1)) = (V c main_v4 : Vec Ideal S1 .f32) (ix1 (0 : Fin 1)) := by
  unfold iblk1
  rw [View.read_apply]
  show V c main_v4 _ = V c main_v4 _
  congr 1
  funext x
  apply Fin.ext
  have h := (idx1 t).2.2.1
  match x with
  | ⟨0, _⟩ => show win1_2.index t 0 * 1 + 1 * 0 = 0; rw [h]; rfl

/-- A row of the gradient and its scaled absolute maximum, as the kernel computes it. -/
def rowx (d : Vec Ideal S12288x8960 .bf16) (r : Fin 12288) : EReal := Quant.rowX fun k => d (ix2 r k)

/-- The scales. -/
def scaleArr (c : Dev nD) : Vec Ideal S12288x1 .f32 := fun i => Quant.kerScale (rowx (V c main_v3) (i 0))

/-- One code. -/
def code (d : Vec Ideal S12288x8960 .bf16) (r : Fin 12288) (k : Fin 8960) : EReal :=
  min (Ideal.ofBits .f32 0x47600000#32) (max (Ideal.ofBits .f32 0xC7600000#32) (d (ix2 r k) * Quant.kerInv (rowx d r)))

/-- The codes. -/
def codeArr (c : Dev nD) : Vec Ideal S12288x8960 .fp8e5m2 := fun i => code (V c main_v3) (i 0) (i 1)

/-- One product. -/
def prod (d : Vec Ideal S12288x8960 .bf16) (w : Vec Ideal S8960x1536 .bf16) (g : EReal) (r : Fin 12288) (o : Fin 1536) : EReal :=
  (∑ x : Fin 8960, code d r x * w (ix2 x o)) * Quant.kerScale (rowx d r) * g

/-- The products. -/
def dxArr (c : Dev nD) : Vec Ideal S12288x1536 .bf16 := fun i =>
  prod (V c main_v3) (V c main_v2) ((V c main_v4 : Vec Ideal S1 .f32) (ix1 (0 : Fin 1))) (i 0) (i 1)

theorem row_block (c : Dev nD) (t : Fin cfg1.N) (r : Fin 256) :
    (Quant.rowX fun k => (iblk1 V c 0 t : Vec Ideal S256x8960 .bf16) (ix2 r k))
      = rowx (V c main_v3) (⟨256 * t.val + r.val, by have := lt1 t; omega⟩ : Fin 12288) := by
  unfold rowx
  exact congrArg Quant.rowX (funext fun k => dy_block V c t r k)

/-- After the second grid the scale array holds the scales. -/
theorem scale_final (c : Dev nD) : (dat1 V c).arrAt 5 cfg1.N = scaleArr V c := by
  refine (dat1 V c).arrAt_eq_of_covers 5 (scaleArr V c) (by decide +kernel) fun t _ y => ?_
  obtain ⟨r, z, rfl⟩ : ∃ (r : Fin 256) (z : Fin 1), y = ix2 r z := ⟨y 0, y 1, eq_ix2 y⟩
  obtain rfl : z = 0 := Fin.ext (by have := z.isLt; show z.val = 0; omega)
  have ht : t.val < 48 := lt1 t
  have he : ((cfg1.win 5).blk t).view.emb (ix2 r (0 : Fin 1)) = (ix2 (⟨256 * t.val + r.val, by omega⟩ : Fin 12288) (0 : Fin 1) : S12288x1.Idx) := by
    funext x
    apply Fin.ext
    have h := (idx1 t).2.2.2.2.2
    match x with
    | ⟨0, _⟩ => show win1_5.index t 0 * 256 + 1 * r.val = 256 * t.val + r.val; rw [h]; show t.val * 256 + 1 * r.val = _; omega
    | ⟨1, _⟩ => show win1_5.index t 1 * 1 + 1 * 0 = 0; rw [h]; rfl
  rw [he]
  show (dat1 V c).after 5 t (ix2 r (0 : Fin 1)) = Quant.kerScale (rowx (V c main_v3) (⟨256 * t.val + r.val, by omega⟩ : Fin 12288))
  rw [after1_5]
  unfold outsAt1
  dsimp only
  rw [Out.out5, Block.scale_apply, row_block]

theorem code_block (c : Dev nD) (t : Fin cfg1.N) (r : Fin 256) (k : Fin 8960) :
    k1_pay1 (F := Ideal) (k1_pay6 (iblk1 V c 0 t)) (Scalar.ofBits .f32 0xC7600000#32) (Scalar.ofBits .f32 0x47600000#32) (ix2 r k)
      = code (V c main_v3) (⟨256 * t.val + r.val, by have := lt1 t; omega⟩ : Fin 12288) k := by
  rw [Block.codes_apply, row_block, dy_block]
  rfl

/-- After the second grid the code array holds the codes. -/
theorem code_final (c : Dev nD) : (dat1 V c).arrAt 4 cfg1.N = codeArr V c := by
  refine (dat1 V c).arrAt_eq_of_covers 4 (codeArr V c) (by decide +kernel) fun t _ y => ?_
  obtain ⟨r, k, rfl⟩ : ∃ (r : Fin 256) (k : Fin 8960), y = ix2 r k := ⟨y 0, y 1, eq_ix2 y⟩
  have ht : t.val < 48 := lt1 t
  have he : ((cfg1.win 4).blk t).view.emb (ix2 r k) = (ix2 (⟨256 * t.val + r.val, by omega⟩ : Fin 12288) k : S12288x8960.Idx) := by
    funext x
    apply Fin.ext
    have h := (idx1 t).2.2.2.2.1
    match x with
    | ⟨0, _⟩ => show win1_4.index t 0 * 256 + 1 * r.val = 256 * t.val + r.val; rw [h]; show t.val * 256 + 1 * r.val = _; omega
    | ⟨1, _⟩ => show win1_4.index t 1 * 8960 + 1 * k.val = k.val; rw [h]; show 0 * 8960 + 1 * k.val = _; omega
  rw [he]
  show (dat1 V c).after 4 t (ix2 r k) = code (V c main_v3) (⟨256 * t.val + r.val, by omega⟩ : Fin 12288) k
  rw [after1_4]
  unfold outsAt1
  dsimp only
  rw [Out.out4]
  exact code_block V c t r k

theorem prod_block (c : Dev nD) (t : Fin cfg1.N) (r : Fin 256) (o : Fin 1536) :
    k1_pay2 (F := Ideal) (k1_pay5 (iblk1 V c 0 t)) (k1_pay1 (k1_pay6 (iblk1 V c 0 t)) (Scalar.ofBits .f32 0xC7600000#32) (Scalar.ofBits .f32 0x47600000#32))
        (iblk1 V c 1 t) ((iblk1 V c 2 t : Vec Ideal S1 .f32) (ix1 (0 : Fin 1))) (ix2 r o)
      = prod (V c main_v3) (V c main_v2) ((V c main_v4 : Vec Ideal S1 .f32) (ix1 (0 : Fin 1))) (⟨256 * t.val + r.val, by have := lt1 t; omega⟩ : Fin 12288) o := by
  have hs : (∑ x : Fin 8960, k1_pay1 (F := Ideal) (k1_pay6 (iblk1 V c 0 t)) (Scalar.ofBits .f32 0xC7600000#32) (Scalar.ofBits .f32 0x47600000#32) (ix2 r x)
        * (iblk1 V c 1 t : Vec Ideal S8960x1536 .bf16) (ix2 x o))
      = ∑ x : Fin 8960, code (V c main_v3) (⟨256 * t.val + r.val, by have := lt1 t; omega⟩ : Fin 12288) x * (V c main_v2 : Vec Ideal S8960x1536 .bf16) (ix2 x o) :=
    Finset.sum_congr rfl fun x _ => by rw [code_block, w_block]
  rw [Block.dx_apply, Block.scale_apply, row_block, g_block, hs]
  rfl

/-- After the second grid the product array holds the products. -/
theorem dx_final (c : Dev nD) : (dat1 V c).arrAt 3 cfg1.N = dxArr V c := by
  refine (dat1 V c).arrAt_eq_of_covers 3 (dxArr V c) (by decide +kernel) fun t _ y => ?_
  obtain ⟨r, o, rfl⟩ : ∃ (r : Fin 256) (o : Fin 1536), y = ix2 r o := ⟨y 0, y 1, eq_ix2 y⟩
  have ht : t.val < 48 := lt1 t
  have he : ((cfg1.win 3).blk t).view.emb (ix2 r o) = (ix2 (⟨256 * t.val + r.val, by omega⟩ : Fin 12288) o : S12288x1536.Idx) := by
    funext x
    apply Fin.ext
    have h := (idx1 t).2.2.2.1
    match x with
    | ⟨0, _⟩ => show win1_3.index t 0 * 256 + 1 * r.val = 256 * t.val + r.val; rw [h]; show t.val * 256 + 1 * r.val = _; omega
    | ⟨1, _⟩ => show win1_3.index t 1 * 1536 + 1 * o.val = o.val; rw [h]; show 0 * 1536 + 1 * o.val = _; omega
  rw [he]
  show (dat1 V c).after 3 t (ix2 r o)
    = prod (V c main_v3) (V c main_v2) ((V c main_v4 : Vec Ideal S1 .f32) (ix1 (0 : Fin 1))) (⟨256 * t.val + r.val, by omega⟩ : Fin 12288) o
  rw [after1_3]
  unfold outsAt1
  dsimp only
  rw [Out.out3]
  exact prod_block V c t r o

end Cert.KernelIdeal.Arr

end
-- ==== Proof.KernelRun.lean ====
/-
  The kernel's run with its three result arrays: after every execution each result array holds what the second grid's
  blocks leave, and the argument arrays are as launched.
-/
module

public import proofs.«01_k».proof.Proof.KernelArr
public import Idealize.ShloMosaic.Lib.StableHlo.RunRead

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

-- the launch theorem's implicit arguments are found by unifying its conclusion with this one, which takes unfolding
-- plain definitions in a metavariable's type
set_option backward.isDefEq.respectTransparency.types false in
/-- The run read at the result arrays: each holds what the second grid leaves; the argument arrays are as launched. -/
theorem run : θ_run defs (onTc (τ := τ) (main (F := Ideal))) ⟨m, fun _ => 0, ρ⟩ (fun r => (∀ c : Dev nD,
      r.2.mem ((c.tc : Thread nD τ).loc main_v5_0) = (dat1 (V3 m ρ) c).arrAt 3 cfg1.N
      ∧ r.2.mem ((c.tc : Thread nD τ).loc main_v5_1) = (dat1 (V3 m ρ) c).arrAt 4 cfg1.N
      ∧ r.2.mem ((c.tc : Thread nD τ).loc main_v5_2) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_v5_0 (by decide))).trans (W4_arr m ρ c 3),
       (h c _ (mem_uc main_v5_1 (by decide))).trans (W4_arr m ρ c 4),
       (h c _ (mem_uc main_v5_2 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩), funext fun g => hz g (.inr (no_unscoped g.2))⟩)

/-! ## The arrays each grid finds -/

theorem V1_v0 (c : Dev nD) : V1 m ρ c main_v0 = transpose S4480x1536 [1, 0] (m ((c : Thread nD τ).loc main_arg1)) transposes_S1536x4480_S4480x1536_1_0 := by
  show StableHlo.after hostOps0 (W0 m ρ c) (Proc.devRef .tc main_v0) = _
  after_reads_simp

theorem V1_v1 (c : Dev nD) : V1 m ρ c main_v1 = transpose S560x96 [1, 0] (m ((c : Thread nD τ).loc main_arg2)) transposes_S96x560_S560x96_1_0 := by
  show StableHlo.after hostOps0 (W0 m ρ c) (Proc.devRef .tc main_v1) = _
  after_reads_simp

theorem V3_v2 (c : Dev nD) : V3 m ρ c main_v2 = Arr.weightArr (V1 m ρ) c :=
  (W3_of m ρ c main_v2 (by decide)).trans ((W2_arr m ρ c 2).trans (Arr.weight_final (V1 m ρ) c))

theorem V3_v3 (c : Dev nD) : V3 m ρ c main_v3 = shapeCast S12288x8960 (m ((c : Thread nD τ).loc main_arg0)) shapeCasts_S24x512x8960_S12288x8960 := by
  show StableHlo.after hostOps1 (W2 m ρ c) (Proc.devRef .tc main_v3) = _
  have e : W2 m ρ c (Proc.devRef .tc main_arg0) = m ((c : Thread nD τ).loc main_arg0) := W2_args m ρ c main_arg0 (by decide)
  rw [← e]
  generalize W2 m ρ c = W
  after_reads_simp
  rfl

theorem V3_v4 (c : Dev nD) : V3 m ρ c main_v4 = shapeCast S1 (m ((c : Thread nD τ).loc main_arg3)) shapeCasts_S_S1 := by
  show StableHlo.after hostOps1 (W2 m ρ c) (Proc.devRef .tc main_v4) = _
  have e : W2 m ρ c (Proc.devRef .tc main_arg3) = m ((c : Thread nD τ).loc main_arg3) := W2_args m ρ c main_arg3 (by decide)
  rw [← e]
  generalize W2 m ρ c = W
  after_reads_simp
  rfl

end Cert.KernelIdeal.Run

end
-- ==== Proof.RefBlock.lean ====
/-
  The reference program's three stored values, read at an index: the scale of a row, the codes of a row, and the entry of
  the product. Each is stated over the region's four input arrays.
-/
module

public import proofs.«01_k».proof.Proof.Gen.ReferenceIdeal
public import proofs.«01_k».proof.Proof.Gen.ReferenceIdeal.Skeleton
public import proofs.«01_k».proof.Proof.Quant
public import Idealize.ShloMosaic.Lib.Pointwise

@[expose] public section

set_option maxRecDepth 16384

noncomputable section

namespace Cert.ReferenceIdeal.Block

open Idealize.ShloMosaic Idealize.ShloMosaic.TcCoe
open Cert.ReferenceIdeal Cert.ReferenceIdeal.Gen

/-- The scaled row maximum the reference quantises by. -/
def rowX (v0 : Vec Ideal S12288x8960 .bf16) : FVec Ideal S12288x1 .f32 :=
  mulf (shapeCast S12288x1 (multiReduction (F := Ideal) .maximumf [1] S12288 (absf (k0_pay2 v0)) 0xFF800000#32 reduces_S12288x8960_S12288 (.inl rfl) rfl) shapeCasts_S12288_S12288x1)
    (broadcast S12288x1 (Scalar.ofBits .f32 0x37924925#32))

/-- The exponent as a function of the scaled row maximum. -/
def expOf (v7 : FVec Ideal S12288x1 .f32) : FVec Ideal S12288x1 .f32 :=
  let v11 : FVec Ideal S1x254 .f32 := sitofp .f32 (subi (iota .tc S1x254 32 [1] iota_S1x254_d1_w32) (broadcast S1x254 125#32))
  let v15 := cmpf .olt (broadcastTo S12288x254 v7 broadcasts_S12288x1_S12288x254) (broadcastTo S12288x254 (exp2 v11) broadcasts_S1x254_S12288x254)
  let v19 : FVec Ideal S12288x254 .f32 := select v15 (broadcastTo S12288x254 (shapeCast S1x254 v11 shapeCasts_S1x254_S1x254) broadcasts_S1x254_S12288x254) (broadcast S12288x254 (Scalar.ofBits .f32 0x43010000#32))
  let v20 : FVec Ideal S12288 .f32 := multiReduction .minimumf [1] S12288 v19 0x7F800000#32 reduces_S12288x254_S12288 (.inl rfl) rfl
  select (ori (cmpf .olt v7 (broadcast S12288x1 (Scalar.ofBits .f32 0x00800000#32))) (cmpf .oeq v7 (broadcast S12288x1 (Scalar.ofBits .f32 0x7F800000#32))))
    (broadcast S12288x1 (Scalar.ofBits .f32 0x00000000#32)) (shapeCast S12288x1 v20 shapeCasts_S12288_S12288x1)

/-- The codes as a function of the row exponents. -/
def codesOf (v0 : FVec Ideal S12288x8960 .f32) (e : FVec Ideal S12288x1 .f32) : FVec Ideal S12288x8960 .fp8e5m2 :=
  truncf .fp8e5m2 (minimumf (broadcast S12288x8960 (Scalar.ofBits .f32 0x47600000#32))
    (maximumf (broadcast S12288x8960 (Scalar.ofBits .f32 0xC7600000#32))
      (mulf v0 (broadcastTo S12288x8960 (exp2 (subf (broadcast S12288x1 (Scalar.ofBits .f32 0x00000000#32)) e)) broadcasts_S12288x1_S12288x8960)))) bitsLt_fp8e5m2_f32

theorem pay3_eq (v0 : Vec Ideal S12288x8960 .bf16) : k0_pay3 (F := Ideal) v0 = expOf (rowX v0) := rfl
theorem pay5_eq (v0 : Vec Ideal S12288x8960 .bf16) : k0_pay5 (F := Ideal) v0 = codesOf (k0_pay2 v0) (k0_pay3 v0) := rfl

theorem pay2_apply (v0 : Vec Ideal S12288x8960 .bf16) (r : Fin 12288) (k : Fin 8960) :
    k0_pay2 (F := Ideal) v0 (ix2 r k) = v0 (ix2 r k) := by
  pointwise [k0_pay2]

theorem scaled_apply (w : FVec Ideal S12288 .f32) (c : Ideal .f32) (r : Fin 12288) :
    mulf (shapeCast S12288x1 w shapeCasts_S12288_S12288x1) (broadcast S12288x1 c) (ix2 r (0 : Fin 1)) = w (ix1 r) * c := by
  pointwise

theorem abs_apply (v0 : Vec Ideal S12288x8960 .bf16) (r : Fin 12288) (x : Fin 8960) :
    absf (k0_pay2 v0) (ix2 r x) = max (v0 (ix2 r x)) (-(v0 (ix2 r x))) := by
  pointwise [k0_pay2]
  simp only [Ideal.absf_def]

theorem max_apply (a : FVec Ideal S12288x8960 .f32) (r : Fin 12288) :
    multiReduction (F := Ideal) (φ := .f32) .maximumf [1] S12288 a 0xFF800000#32 reduces_S12288x8960_S12288 (.inl rfl) rfl (ix1 r)
      = Finset.fold max (Ideal.ofBits FTy.f32 0xFF800000#32) (fun x => a (ix2 r x)) Finset.univ := by
  pointwise

theorem neg_inf : Ideal.ofBits .f32 0xFF800000#32 = ⊥ := by
  simp [Ideal.ofBits, Ideal.ieee]

theorem rowX_apply (v0 : Vec Ideal S12288x8960 .bf16) (r : Fin 12288) :
    rowX v0 (ix2 r (0 : Fin 1)) = Quant.rowX fun k => v0 (ix2 r k) := by
  unfold rowX Quant.rowX
  rw [scaled_apply, max_apply, neg_inf]
  simp only [abs_apply, Scalar.ofBits, Ideal.ofBits_def]

theorem expOf_apply (v : FVec Ideal S12288x1 .f32) (r : Fin 12288) :
    expOf v (ix2 r (0 : Fin 1)) = Quant.refE (v (ix2 r (0 : Fin 1))) := by
  pointwise [expOf]
  rfl

theorem exp2_apply (v : FVec Ideal S12288x1 .f32) (r : Fin 12288) :
    exp2 v (ix2 r (0 : Fin 1)) = Ideal.exp2 (v (ix2 r (0 : Fin 1))) := rfl

/-- The scale of row `r`. -/
theorem scale_apply (v0 : Vec Ideal S12288x8960 .bf16) (r : Fin 12288) :
    k0_pay4 (F := Ideal) v0 (ix2 r (0 : Fin 1)) = Ideal.exp2 (Quant.refE (Quant.rowX fun k => v0 (ix2 r k))) := by
  unfold k0_pay4
  show exp2 (k0_pay3 v0) (ix2 r (0 : Fin 1)) = _
  rw [exp2_apply, pay3_eq, expOf_apply, rowX_apply]

theorem codesOf_apply (v0 : FVec Ideal S12288x8960 .f32) (e : FVec Ideal S12288x1 .f32) (r : Fin 12288) (k : Fin 8960) :
    codesOf v0 e (ix2 r k) = min (Ideal.ofBits .f32 0x47600000#32) (max (Ideal.ofBits .f32 0xC7600000#32)
      (v0 (ix2 r k) * Ideal.exp2 (0 - e (ix2 r (0 : Fin 1))))) := by
  pointwise [codesOf]
  rfl

/-- The code at `(r, k)`. -/
theorem codes_apply (v0 : Vec Ideal S12288x8960 .bf16) (r : Fin 12288) (k : Fin 8960) :
    k0_pay5 (F := Ideal) v0 (ix2 r k) = min (Ideal.ofBits .f32 0x47600000#32) (max (Ideal.ofBits .f32 0xC7600000#32)
      (v0 (ix2 r k) * Ideal.exp2 (0 - Quant.refE (Quant.rowX fun k => v0 (ix2 r k))))) := by
  rw [pay5_eq, codesOf_apply, pay2_apply, pay3_eq, expOf_apply, rowX_apply]

/-- The entry `(r, o)` of the product: the codes times the decoded weights, rescaled by the row and the global scale. -/
theorem dx_apply (v29 : FVec Ideal S12288x1 .f32) (v39 : FVec Ideal S12288x8960 .fp8e5m2) (v41 : FVec Ideal S96x560 .bf16)
    (v42 : Vec Ideal S1536x8960 .bf16) (v53 : Vec Ideal S1x1 .f32) (r : Fin 12288) (o : Fin 1536) :
    k0_pay1 (F := Ideal) v29 v39 v41 v42 v53 (ix2 r o)
      = (∑ x : Fin 8960, v39 (ix2 r x) * (v42 (ix2 o x) * v41 (ix2 ⟨o.val / 16, by omega⟩ ⟨x.val / 16, by omega⟩)))
          * v29 (ix2 r (0 : Fin 1)) * v53 (ix2 (0 : Fin 1) (0 : Fin 1)) := by
  pointwise [k0_pay1]

theorem sc_apply (v40 : Vec Ideal S96x560 .fp8e4m3) (b : Fin 96) (c : Fin 560) :
    k0_pay6 (F := Ideal) v40 (ix2 b c) = v40 (ix2 b c) := by
  pointwise [k0_pay6]

end Cert.ReferenceIdeal.Block

end
-- ==== Proof.RefHost.lean ====
/-
  What the reference's host part hands its kernel: the flattened gradient, the decoded weight values, the block scales
  and the global scale, each read at an index.
-/
module

public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Nibble
public import Idealize.ShloMosaic.Lib.StableHlo.RunRead
public import Idealize.ShloMosaic.Lib.Pointwise

@[expose] public section

set_option maxRecDepth 16384

noncomputable section

namespace Cert.ReferenceIdeal.RefHost

open Idealize.ShloMosaic Idealize.ShloMosaic.TcCoe
open Cert.ReferenceIdeal Cert.ReferenceIdeal.Gen

/-- The four-bit fields of the bytes, low half first, along the contracted axis. -/
def nibbles (x : IVec S1536x4480 8) : IVec S1536x8960 32 :=
  shapeCast S1536x8960 (concatenate S1536x4480x2 2
    [⟨S1536x4480x1, broadcastInDim S1536x4480x1 ![0, 1] bcast_S1536x4480_S1536x4480x1_0_1 (andi (extui 32 x natLt_8_32) (broadcastInDim S1536x4480 ![] bcast_S_S1536x4480 (constantI S_ 32 15#32)))⟩,
     ⟨S1536x4480x1, broadcastInDim S1536x4480x1 ![0, 1] bcast_S1536x4480_S1536x4480x1_0_1 (Host.shrsi (extui 32 x natLt_8_32) (broadcastInDim S1536x4480 ![] bcast_S_S1536x4480 (constantI S_ 32 4#32)))⟩]
    concatenates_S1536x4480x1_S1536x4480x1_S1536x4480x2_d2) shapeCasts_S1536x4480x2_S1536x8960

/-- Whether bit `n` is set in each field. -/
def bit (f : IVec S1536x8960 32) (n : BitVec 32) : IVec S1536x8960 1 :=
  cmpi .eq (andi (Host.shrsi f (broadcastInDim S1536x8960 ![] bcast_S_S1536x8960 (constantI S_ 32 n)))
    (broadcastInDim S1536x8960 ![] bcast_S_S1536x8960 (constantI S_ 32 1#32))) (broadcastInDim S1536x8960 ![] bcast_S_S1536x8960 (constantI S_ 32 1#32))

/-- A scalar over the whole weight. -/
def all (b : BitVec 16) : FVec Ideal S1536x8960 .bf16 :=
  broadcastInDim S1536x8960 ![] bcast_S_S1536x8960 (constant S_ .bf16 b)

/-- The magnitudes. -/
def mags (f : IVec S1536x8960 32) : FVec Ideal S1536x8960 .bf16 :=
  select (bit f 2#32) (select (bit f 1#32) (select (bit f 0#32) (all 0x40C0#16) (all 0x4080#16)) (select (bit f 0#32) (all 0x4040#16) (all 0x4000#16)))
    (select (bit f 1#32) (select (bit f 0#32) (all 0x3FC0#16) (all 0x3F80#16)) (select (bit f 0#32) (all 0x3F00#16) (all 0x0000#16)))

/-- The signed values. -/
def vals (f : IVec S1536x8960 32) : FVec Ideal S1536x8960 .bf16 :=
  select (bit f 3#32) (Host.negf (mags f)) (mags f)

variable (m : (ℓ : Loc nD τ sig) → Buf (Elt Ideal) ℓ) (c : Dev nD)

/-- The buffers after the first stretch of host operations. -/
def U : Valuation τ sig (Elt Ideal) := StableHlo.after hostOps0 (fun b => m (c, b))

theorem U_v8 : U m c (Proc.devRef .tc main_v8) = nibbles (m ((c : Thread nD τ).loc main_arg1)) := by
  unfold U
  after_reads_simp
  rfl

theorem U_v15 : U m c (Proc.devRef .tc main_v15) = bit (U m c (Proc.devRef .tc main_v8)) 0#32 := by
  unfold U
  after_reads_simp
  rfl

theorem U_v21 : U m c (Proc.devRef .tc main_v21) = bit (U m c (Proc.devRef .tc main_v8)) 1#32 := by
  unfold U
  after_reads_simp
  rfl

theorem U_v27 : U m c (Proc.devRef .tc main_v27) = bit (U m c (Proc.devRef .tc main_v8)) 2#32 := by
  unfold U
  after_reads_simp
  rfl

theorem U_v33 : U m c (Proc.devRef .tc main_v33) = bit (U m c (Proc.devRef .tc main_v8)) 3#32 := by
  unfold U
  after_reads_simp
  rfl

theorem U_cst : U m c (Proc.devRef .tc main_cst) = constant (F := Ideal) S_ .bf16 0x40C0#16 := by
  unfold U
  after_reads_simp

theorem U_cst_13 : U m c (Proc.devRef .tc main_cst_13) = constant (F := Ideal) S_ .bf16 0x4080#16 := by
  unfold U
  after_reads_simp

theorem tail_w (W : Valuation τ sig (Elt Ideal)) (f : IVec S1536x8960 32)
    (h0 : W (Proc.devRef .tc main_v15) = bit f 0#32) (h1 : W (Proc.devRef .tc main_v21) = bit f 1#32)
    (h2 : W (Proc.devRef .tc main_v27) = bit f 2#32) (h3 : W (Proc.devRef .tc main_v33) = bit f 3#32)
    (h4 : W (Proc.devRef .tc main_cst) = constant (F := Ideal) S_ .bf16 0x40C0#16) (h5 : W (Proc.devRef .tc main_cst_13) = constant (F := Ideal) S_ .bf16 0x4080#16) :
    StableHlo.after (hostOps0_1 ++ (hostOps0_2 ++ (hostOps0_3 ++ (hostOps0_4 ++ (hostOps0_5 ++ (hostOps0_6 ++ (hostOps0_7 ++ (hostOps0_8 ++ (hostOps0_9 ++ (hostOps0_10 ++ (hostOps0_11 ++ (hostOps0_12 ++ hostOps0_13)))))))))))) W (Proc.devRef .tc main_v42)
      = vals f := by
  after_reads_simp
  rw [h0, h1, h2, h3, h4, h5]
  rfl

theorem host_w : V m c main_v42 = vals (nibbles (m ((c : Thread nD τ).loc main_arg1))) := by
  unfold V
  simp only [List.flatten_cons, List.flatten_nil, List.append_nil]
  rw [StableHlo.after_append]
  exact tail_w (U m c) _ ((U_v15 m c).trans (congrArg (bit · _) (U_v8 m c))) ((U_v21 m c).trans (congrArg (bit · _) (U_v8 m c)))
    ((U_v27 m c).trans (congrArg (bit · _) (U_v8 m c))) ((U_v33 m c).trans (congrArg (bit · _) (U_v8 m c))) (U_cst m c) (U_cst_13 m c)

theorem host_dy : V m c main_v9 = shapeCast S12288x8960 (m ((c : Thread nD τ).loc main_arg0)) shapeCasts_S24x512x8960_S12288x8960 := by
  unfold V
  simp only [List.flatten_cons, List.flatten_nil, List.append_nil]
  after_reads_simp
  rfl

theorem host_g : V m c main_v43 = shapeCast S1x1 (m ((c : Thread nD τ).loc main_arg3)) shapeCasts_S_S1x1 := by
  unfold V
  simp only [List.flatten_cons, List.flatten_nil, List.append_nil]
  after_reads_simp
  rfl

/-- A field of the bytes at `(o, k)`: half `k % 2` of byte `k / 2`. -/
theorem nibbles_apply (x : IVec S1536x4480 8) (o : Fin 1536) (k : Fin 8960) :
    nibbles x (ix2 o k) = Nibble.field (x (ix2 o (⟨k.val / 2, by omega⟩ : Fin 4480))) ⟨k.val % 2, Nat.mod_lt _ (by decide)⟩ := by
  pointwise [nibbles]
  unfold Nibble.field
  by_cases h : k.val % 2 = 0
  · rw [dif_pos (show k.val % 2 < 1 by omega), if_pos (Fin.ext h)]
  · rw [dif_neg (show ¬ k.val % 2 < 1 by omega), if_neg (fun e => h (congrArg Fin.val e))]

theorem bit_apply (f : IVec S1536x8960 32) (n : BitVec 32) (o : Fin 1536) (k : Fin 8960) : bit f n (ix2 o k) = Nibble.bit (f (ix2 o k)) n := by
  pointwise [bit]
  rfl

theorem all_apply (b : BitVec 16) (o : Fin 1536) (k : Fin 8960) : all b (ix2 o k) = Ideal.ofBits .bf16 b := by
  pointwise [all]

theorem mags_apply (f : IVec S1536x8960 32) (o : Fin 1536) (k : Fin 8960) : mags f (ix2 o k) = Nibble.mag (f (ix2 o k)) := by
  have e : mags f (ix2 o k) = Scalar.select (bit f 2#32 (ix2 o k))
      (Scalar.select (bit f 1#32 (ix2 o k)) (Scalar.select (bit f 0#32 (ix2 o k)) (all 0x40C0#16 (ix2 o k)) (all 0x4080#16 (ix2 o k)))
        (Scalar.select (bit f 0#32 (ix2 o k)) (all 0x4040#16 (ix2 o k)) (all 0x4000#16 (ix2 o k))))
      (Scalar.select (bit f 1#32 (ix2 o k)) (Scalar.select (bit f 0#32 (ix2 o k)) (all 0x3FC0#16 (ix2 o k)) (all 0x3F80#16 (ix2 o k)))
        (Scalar.select (bit f 0#32 (ix2 o k)) (all 0x3F00#16 (ix2 o k)) (all 0x0000#16 (ix2 o k)))) := rfl
  rw [e]
  simp only [bit_apply, all_apply]
  rfl

theorem vals_apply (f : IVec S1536x8960 32) (o : Fin 1536) (k : Fin 8960) : vals f (ix2 o k) = Nibble.val (f (ix2 o k)) := by
  have e : vals f (ix2 o k) = Scalar.select (bit f 3#32 (ix2 o k)) (-(mags f (ix2 o k))) (mags f (ix2 o k)) := rfl
  rw [e, bit_apply, mags_apply]
  rfl

end Cert.ReferenceIdeal.RefHost

end
-- ==== Proof.RefArr.lean ====
/-
  The reference's three result arrays, each at an index, from the arrays its kernel finds.
-/
module

public import proofs.«01_k».proof.Proof.Gen.ReferenceIdeal.Value
public import proofs.«01_k».proof.Proof.RefBlock
public import proofs.«01_k».proof.Proof.RefHost
public import Idealize.ShloMosaic.Lib.Pipeline.ValueKit

@[expose] public section

set_option maxRecDepth 16384

noncomputable section

namespace Cert.ReferenceIdeal.Arr

open Idealize.ShloMosaic Idealize.ShloMosaic.TcCoe
open Cert.ReferenceIdeal Cert.ReferenceIdeal.Gen

theorem hz : (![0, 0] : Fin 2 → Nat) = fun _ => 0 := funext fun a => by fin_cases a <;> rfl

variable (x0 : Vec Ideal S12288x8960 .bf16) (x1 : Vec Ideal S1536x8960 .bf16) (x2 : Vec Ideal S96x560 .fp8e4m3) (x3 : Vec Ideal S1x1 .f32)

theorem pay7_eq : k0_pay7 (F := Ideal) x0 x1 x2 x3 = k0_pay4 x0 := by
  unfold k0_pay7
  rw [show View.ld x0 r0_0 = x0 from View.ld_unit_zero (S := S12288x8960) hz _ x0]

theorem pay8_eq : k0_pay8 (F := Ideal) x0 x1 x2 x3 = k0_pay5 x0 := by
  unfold k0_pay8
  rw [show View.ld x0 r0_0 = x0 from View.ld_unit_zero (S := S12288x8960) hz _ x0]

/-- The scale result. -/
theorem out6 : out0_6 (F := Ideal) x0 x1 x2 x3 = k0_pay4 x0 := by
  unfold out0_6
  rw [pay7_eq]
  exact View.canon_unit_zero hz _ _

/-- The code result. -/
theorem out5 : out0_5 (F := Ideal) x0 x1 x2 x3 = k0_pay5 x0 := by
  unfold out0_5
  rw [pay8_eq]
  exact View.canon_unit_zero hz _ _

/-- The product result. -/
theorem out4 : out0_4 (F := Ideal) x0 x1 x2 x3 = k0_pay1 (k0_pay4 x0) (k0_pay5 x0) (k0_pay6 x2) x1 x3 := by
  unfold out0_4
  rw [pay7_eq, pay8_eq, show View.ld x2 r0_1 = x2 from View.ld_unit_zero (S := S96x560) hz _ x2,
    show View.ld x1 r0_2 = x1 from View.ld_unit_zero (S := S1536x8960) hz _ x1,
    show View.ld x3 r0_3 = x3 from View.ld_unit_zero (S := S1x1) hz _ x3]
  exact View.canon_unit_zero hz _ _

/-- A row of the gradient and its scaled absolute maximum. -/
def rowx (d : Vec Ideal S12288x8960 .bf16) (r : Fin 12288) : EReal := Quant.rowX fun k => d (ix2 r k)

/-- One code. -/
def code (d : Vec Ideal S12288x8960 .bf16) (r : Fin 12288) (k : Fin 8960) : EReal :=
  min (Ideal.ofBits .f32 0x47600000#32) (max (Ideal.ofBits .f32 0xC7600000#32) (d (ix2 r k) * Ideal.exp2 (0 - Quant.refE (rowx d r))))

/-- One product. -/
def prod (d : Vec Ideal S12288x8960 .bf16) (w : Vec Ideal S1536x8960 .bf16) (s : Vec Ideal S96x560 .fp8e4m3) (g : EReal) (r : Fin 12288) (o : Fin 1536) : EReal :=
  (∑ x : Fin 8960, code d r x * (w (ix2 o x) * s (ix2 (⟨o.val / 16, by omega⟩ : Fin 96) (⟨x.val / 16, by omega⟩ : Fin 560)))) * Ideal.exp2 (Quant.refE (rowx d r)) * g

theorem code_apply (r : Fin 12288) (k : Fin 8960) : k0_pay5 (F := Ideal) x0 (ix2 r k) = code x0 r k := Block.codes_apply x0 r k

theorem scale_apply (r : Fin 12288) : k0_pay4 (F := Ideal) x0 (ix2 r (0 : Fin 1)) = Ideal.exp2 (Quant.refE (rowx x0 r)) := Block.scale_apply x0 r

theorem prod_apply (r : Fin 12288) (o : Fin 1536) :
    k0_pay1 (F := Ideal) (k0_pay4 x0) (k0_pay5 x0) (k0_pay6 x2) x1 x3 (ix2 r o) = prod x0 x1 x2 (x3 (ix2 (0 : Fin 1) (0 : Fin 1))) r o := by
  have hs : (∑ x : Fin 8960, k0_pay5 (F := Ideal) x0 (ix2 r x) * (x1 (ix2 o x) * k0_pay6 x2 (ix2 (⟨o.val / 16, by omega⟩ : Fin 96) (⟨x.val / 16, by omega⟩ : Fin 560))))
      = ∑ x : Fin 8960, code x0 r x * (x1 (ix2 o x) * x2 (ix2 (⟨o.val / 16, by omega⟩ : Fin 96) (⟨x.val / 16, by omega⟩ : Fin 560))) :=
    Finset.sum_congr rfl fun x _ => by rw [code_apply, Block.sc_apply]
  rw [Block.dx_apply, scale_apply, hs]
  rfl

/-! ## The arrays -/

variable (m : (ℓ : Loc nD τ sig) → Buf (Elt Ideal) ℓ) (c : Dev nD)

/-- The block index of every window at the one point. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem blk_0 (t : Fin cfg0.N) : (iblk m c 0 t : Vec Ideal S12288x8960 .bf16) = V m c main_v9 := by
  have hz' : (fun a => win0_0.index t a * main_v9.ty.shape.size a) = fun _ => 0 := funext fun a => by rw [(idx t).1]; fin_cases a <;> rfl
  unfold iblk
  exact Memref.read_access_unit_zero (Elt Ideal) main_v9 hz' (fun a => by rw [congrFun hz' a]; simp) (V m c main_v9)

theorem blk_1 (t : Fin cfg0.N) : (iblk m c 1 t : Vec Ideal S1536x8960 .bf16) = V m c main_v42 := by
  have hz' : (fun a => win0_1.index t a * main_v42.ty.shape.size a) = fun _ => 0 := funext fun a => by rw [(idx t).2.1]; fin_cases a <;> rfl
  unfold iblk
  exact Memref.read_access_unit_zero (Elt Ideal) main_v42 hz' (fun a => by rw [congrFun hz' a]; simp) (V m c main_v42)

theorem blk_2 (t : Fin cfg0.N) : (iblk m c 2 t : Vec Ideal S96x560 .fp8e4m3) = V m c main_arg2 := by
  have hz' : (fun a => win0_2.index t a * main_arg2.ty.shape.size a) = fun _ => 0 := funext fun a => by rw [(idx t).2.2.1]; fin_cases a <;> rfl
  unfold iblk
  exact Memref.read_access_unit_zero (Elt Ideal) main_arg2 hz' (fun a => by rw [congrFun hz' a]; simp) (V m c main_arg2)

theorem blk_3 (t : Fin cfg0.N) : (iblk m c 3 t : Vec Ideal S1x1 .f32) = V m c main_v43 := by
  have hz' : (fun a => win0_3.index t a * main_v43.ty.shape.size a) = fun _ => 0 := funext fun a => by rw [(idx t).2.2.2.1]; fin_cases a <;> rfl
  unfold iblk
  exact Memref.read_access_unit_zero (Elt Ideal) main_v43 hz' (fun a => by rw [congrFun hz' a]; simp) (V m c main_v43)

theorem scale_final : (dats m 0 c).arrAt 6 cfg0.N = k0_pay4 (F := Ideal) (V m c main_v9) := by
  refine (dats m 0 c).arrAt_eq_of_covers 6 (k0_pay4 (F := Ideal) (V m c main_v9)) (by decide +kernel) fun t _ y => ?_
  obtain ⟨r, z, rfl⟩ : ∃ (r : Fin 12288) (z : Fin 1), y = ix2 r z := ⟨y 0, y 1, eq_ix2 y⟩
  have he : ((cfg0.win 6).blk t).view.emb (ix2 r z) = (ix2 r z : S12288x1.Idx) := by
    funext x
    apply Fin.ext
    have h := (idx t).2.2.2.2.2.2
    match x with
    | ⟨0, _⟩ => show win0_6.index t 0 * 12288 + 1 * r.val = r.val; rw [h]; show 0 * 12288 + 1 * r.val = _; omega
    | ⟨1, _⟩ => show win0_6.index t 1 * 1 + 1 * z.val = z.val; rw [h]; show 0 * 1 + 1 * z.val = _; omega
  rw [he]
  show (dats m 0 c).after 6 t (ix2 r z) = _
  rw [after0_6, out6, blk_0]

theorem code_final : (dats m 0 c).arrAt 5 cfg0.N = k0_pay5 (F := Ideal) (V m c main_v9) := by
  refine (dats m 0 c).arrAt_eq_of_covers 5 (k0_pay5 (F := Ideal) (V m c main_v9)) (by decide +kernel) fun t _ y => ?_
  obtain ⟨r, k, rfl⟩ : ∃ (r : Fin 12288) (k : Fin 8960), y = ix2 r k := ⟨y 0, y 1, eq_ix2 y⟩
  have he : ((cfg0.win 5).blk t).view.emb (ix2 r k) = (ix2 r k : S12288x8960.Idx) := by
    funext x
    apply Fin.ext
    have h := (idx t).2.2.2.2.2.1
    match x with
    | ⟨0, _⟩ => show win0_5.index t 0 * 12288 + 1 * r.val = r.val; rw [h]; show 0 * 12288 + 1 * r.val = _; omega
    | ⟨1, _⟩ => show win0_5.index t 1 * 8960 + 1 * k.val = k.val; rw [h]; show 0 * 8960 + 1 * k.val = _; omega
  rw [he]
  show (dats m 0 c).after 5 t (ix2 r k) = _
  rw [after0_5, out5, blk_0]

theorem dx_final : (dats m 0 c).arrAt 4 cfg0.N
    = k0_pay1 (F := Ideal) (k0_pay4 (V m c main_v9)) (k0_pay5 (V m c main_v9)) (k0_pay6 (V m c main_arg2)) (V m c main_v42) (V m c main_v43) := by
  refine (dats m 0 c).arrAt_eq_of_covers 4 (k0_pay1 (F := Ideal) (k0_pay4 (V m c main_v9)) (k0_pay5 (V m c main_v9)) (k0_pay6 (V m c main_arg2)) (V m c main_v42) (V m c main_v43)) (by decide +kernel) fun t _ y => ?_
  obtain ⟨r, o, rfl⟩ : ∃ (r : Fin 12288) (o : Fin 1536), y = ix2 r o := ⟨y 0, y 1, eq_ix2 y⟩
  have he : ((cfg0.win 4).blk t).view.emb (ix2 r o) = (ix2 r o : S12288x1536.Idx) := by
    funext x
    apply Fin.ext
    have h := (idx t).2.2.2.2.1
    match x with
    | ⟨0, _⟩ => show win0_4.index t 0 * 12288 + 1 * r.val = r.val; rw [h]; show 0 * 12288 + 1 * r.val = _; omega
    | ⟨1, _⟩ => show win0_4.index t 1 * 1536 + 1 * o.val = o.val; rw [h]; show 0 * 1536 + 1 * o.val = _; omega
  rw [he]
  show (dats m 0 c).after 4 t (ix2 r o) = _
  rw [after0_4, out4, blk_0, blk_1, blk_2, blk_3]

end Cert.ReferenceIdeal.Arr

end
-- ==== Proof.Equation.lean ====
/-
  The two programs' result arrays are equal: the kernel's scales are the reference's on every row a bfloat16 gradient can
  have, its decoded weight is the reference's, and so the codes and the products agree.
-/
module

public import proofs.«01_k».proof.Defs
public import proofs.«01_k».proof.Proof.KernelRun
public import proofs.«01_k».proof.Proof.RefArr

@[expose] public section

set_option maxRecDepth 16384

noncomputable section

namespace Cert.Equation

open Idealize.ShloMosaic Idealize.ShloMosaic.TcCoe

/-- The shape fact of the precondition's program. -/
theorem preFacts : Cert.Pre_dy_is_bf16.Facts := ⟨by decide⟩

attribute [local instance] preFacts

/-! ## The precondition, read -/

theorem bfmax : Ideal.ofBits .bf16 0x7F7F#16 < (((2 : ℝ) ^ (128 : ℤ) : ℝ) : EReal) := by
  have e : Ideal.ofBits .bf16 0x7F7F#16 = (((255 : ℝ) * (2 : ℝ) ^ (120 : ℤ) : ℝ) : EReal) := by
    simp [Ideal.ofBits, Ideal.ieee]
  rw [e, EReal.coe_lt_coe_iff]
  norm_num

theorem bfinf : Ideal.ofBits .bf16 0x7F80#16 = ⊤ := by
  simp [Ideal.ofBits, Ideal.ieee]

/-- An element the precondition accepts: of magnitude below 2^128, or infinite. -/
theorem elem_range (a : EReal)
    (h : IntOp.ori (Ideal.cmp .ole (max a (-a)) (Ideal.ofBits .bf16 0x7F7F#16)) (Ideal.cmp .oeq (max a (-a)) (Ideal.ofBits .bf16 0x7F80#16)) = 1#1) :
    max a (-a) < (((2 : ℝ) ^ (128 : ℤ) : ℝ) : EReal) ∨ max a (-a) = ⊤ := by
  rw [bfinf] at h
  by_cases h1 : max a (-a) ≤ Ideal.ofBits .bf16 0x7F7F#16
  · exact .inl (lt_of_le_of_lt h1 bfmax)
  by_cases h2 : max a (-a) = ⊤
  · exact .inr h2
  exfalso
  simp [Ideal.cmp, h1, h2, IntOp.ori] at h

/-- The precondition at one element of the gradient. -/
theorem pre_elem (a0 : FVec Ideal Cert.Pre_dy_is_bf16.S24x512x8960 .bf16) (a1 : IVec Cert.Pre_dy_is_bf16.S1536x4480 8)
    (a2 : FVec Ideal Cert.Pre_dy_is_bf16.S96x560 .fp8e4m3) (a3 : FVec Ideal Cert.Pre_dy_is_bf16.S_ .f32)
    (h : Cert.Pre_dy_is_bf16.fn (F := Ideal) a0 a1 a2 a3 = fun _ => 1#1) (i : Cert.Pre_dy_is_bf16.S24x512x8960.Idx) :
    max (a0 i) (-(a0 i)) < (((2 : ℝ) ^ (128 : ℤ) : ℝ) : EReal) ∨ max (a0 i) (-(a0 i)) = ⊤ :=
  elem_range (a0 i) (congrFun h i)

/-! ## The results, element by element -/

section
variable (d : Vec Ideal Cert.KernelIdeal.S12288x8960 .bf16)
  (hd : ∀ i, max (d i) (-(d i)) < (((2 : ℝ) ^ (128 : ℤ) : ℝ) : EReal) ∨ max (d i) (-(d i)) = ⊤)
include hd

/-- The scale of a row is the reference's. -/
theorem scale_eq (r : Fin 12288) :
    Quant.kerScale (Cert.KernelIdeal.Arr.rowx d r) = Ideal.exp2 (Quant.refE (Cert.ReferenceIdeal.Arr.rowx d r))
      ∧ Quant.kerInv (Cert.KernelIdeal.Arr.rowx d r) = Ideal.exp2 (0 - Quant.refE (Cert.ReferenceIdeal.Arr.rowx d r)) := by
  have h := Quant.rowX_range (fun k => d (ix2 r k)) fun k => hd (ix2 r k)
  exact Quant.scales_eq h.1 h.2

/-- A code is the reference's. -/
theorem code_eq (r : Fin 12288) (k : Fin 8960) : Cert.KernelIdeal.Arr.code d r k = Cert.ReferenceIdeal.Arr.code d r k := by
  unfold Cert.KernelIdeal.Arr.code Cert.ReferenceIdeal.Arr.code
  rw [(scale_eq d hd r).2]

end

/-- The decoded weight is the reference's value times its block scale. -/
theorem weight_eq (b : Vec Ideal Cert.KernelIdeal.S1536x4480 .i8) (s : Vec Ideal Cert.KernelIdeal.S96x560 .fp8e4m3)
    (hb : Cert.KernelIdeal.S1536x4480.Transposes [1, 0] Cert.KernelIdeal.S4480x1536) (hs : Cert.KernelIdeal.S96x560.Transposes [1, 0] Cert.KernelIdeal.S560x96)
    (k : Fin 8960) (o : Fin 1536) :
    Cert.KernelIdeal.Arr.weight (transpose Cert.KernelIdeal.S4480x1536 [1, 0] b hb) (transpose Cert.KernelIdeal.S560x96 [1, 0] s hs) k o
      = Cert.ReferenceIdeal.RefHost.vals (Cert.ReferenceIdeal.RefHost.nibbles b) (ix2 o k)
          * s (ix2 (⟨o.val / 16, by omega⟩ : Fin 96) (⟨k.val / 16, by omega⟩ : Fin 560)) := by
  have e1 : ∀ (i : Fin 4480) (o : Fin 1536), transpose Cert.KernelIdeal.S4480x1536 [1, 0] b hb (ix2 i o) = b (ix2 o i) := by
    intro i o; pointwise
  have e2 : ∀ (i : Fin 560) (o : Fin 96), transpose Cert.KernelIdeal.S560x96 [1, 0] s hs (ix2 i o) = s (ix2 o i) := by
    intro i o; pointwise
  unfold Cert.KernelIdeal.Arr.weight
  rw [Cert.ReferenceIdeal.RefHost.vals_apply, Cert.ReferenceIdeal.RefHost.nibbles_apply, e1, e2]

/-! ## The result arrays -/

section
variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The gradient both kernels read, as rows. -/
def rows : Vec Ideal Cert.KernelIdeal.S12288x8960 .bf16 :=
  shapeCast Cert.KernelIdeal.S12288x8960 (m ((c.tc : Thread Cert.KernelIdeal.nD Cert.KernelIdeal.τ).loc Cert.KernelIdeal.main_arg0)) Cert.KernelIdeal.Facts₀.shapeCasts_S24x512x8960_S12288x8960

theorem rows_range (h : Cert.Pre_KernelIdeal_dy_is_bf16 m) (i) :
    max (rows m c i) (-(rows m c i)) < (((2 : ℝ) ^ (128 : ℤ) : ℝ) : EReal) ∨ max (rows m c i) (-(rows m c i)) = ⊤ :=
  pre_elem _ _ _ _ (h c) _

theorem ker_rows : (Cert.KernelIdeal.Gen.V3 m g c Cert.KernelIdeal.main_v3 : Vec Ideal Cert.KernelIdeal.S12288x8960 .bf16) = rows m c :=
  Cert.KernelIdeal.Run.V3_v3 m g c

variable (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))

include h0 in
theorem ref_rows : (Cert.ReferenceIdeal.Gen.V m' c Cert.ReferenceIdeal.main_v9 : Vec Ideal Cert.KernelIdeal.S12288x8960 .bf16) = rows m c := by
  refine (Cert.ReferenceIdeal.RefHost.host_dy m' c).trans ?_
  rw [h0]
  rfl

include h0 in
/-- The scales agree. -/
theorem scale_arr (hp : Cert.Pre_KernelIdeal_dy_is_bf16 m) :
    (Cert.ReferenceIdeal.Gen.dats m' 0 c).arrAt 6 Cert.ReferenceIdeal.cfg0.N = (Cert.KernelIdeal.Gen.dat1 (Cert.KernelIdeal.Gen.V3 m g) c).arrAt 5 Cert.KernelIdeal.cfg1.N := by
  refine (Cert.ReferenceIdeal.Arr.scale_final m' c).trans (Eq.trans ?_ (Cert.KernelIdeal.Arr.scale_final (Cert.KernelIdeal.Gen.V3 m g) c).symm)
  funext i
  obtain ⟨r, z, rfl⟩ : ∃ (r : Fin 12288) (z : Fin 1), i = ix2 r z := ⟨i 0, i 1, eq_ix2 i⟩
  obtain rfl : z = 0 := Fin.ext (by have := z.isLt; show z.val = 0; omega)
  refine (Cert.ReferenceIdeal.Arr.scale_apply _ r).trans ?_
  show _ = Quant.kerScale (Cert.KernelIdeal.Arr.rowx (Cert.KernelIdeal.Gen.V3 m g c Cert.KernelIdeal.main_v3) r)
  rw [ker_rows, (scale_eq (rows m c) (rows_range m c hp) r).1, ← ref_rows m m' c h0]

include h0 in
/-- The codes agree. -/
theorem code_arr (hp : Cert.Pre_KernelIdeal_dy_is_bf16 m) :
    (Cert.ReferenceIdeal.Gen.dats m' 0 c).arrAt 5 Cert.ReferenceIdeal.cfg0.N = (Cert.KernelIdeal.Gen.dat1 (Cert.KernelIdeal.Gen.V3 m g) c).arrAt 4 Cert.KernelIdeal.cfg1.N := by
  refine (Cert.ReferenceIdeal.Arr.code_final m' c).trans (Eq.trans ?_ (Cert.KernelIdeal.Arr.code_final (Cert.KernelIdeal.Gen.V3 m g) c).symm)
  funext i
  obtain ⟨r, k, rfl⟩ : ∃ (r : Fin 12288) (k : Fin 8960), i = ix2 r k := ⟨i 0, i 1, eq_ix2 i⟩
  refine (Cert.ReferenceIdeal.Arr.code_apply _ r k).trans ?_
  show _ = Cert.KernelIdeal.Arr.code (Cert.KernelIdeal.Gen.V3 m g c Cert.KernelIdeal.main_v3) r k
  rw [ker_rows, code_eq (rows m c) (rows_range m c hp) r k, ← ref_rows m m' c h0]

include h3 in
/-- The global scale both kernels read. -/
theorem global_eq :
    (Cert.ReferenceIdeal.Gen.V m' c Cert.ReferenceIdeal.main_v43 : Vec Ideal Cert.ReferenceIdeal.S1x1 .f32) (ix2 (0 : Fin 1) (0 : Fin 1))
      = (Cert.KernelIdeal.Gen.V3 m g c Cert.KernelIdeal.main_v4 : Vec Ideal Cert.KernelIdeal.S1 .f32) (ix1 (0 : Fin 1)) := by
  rw [Cert.ReferenceIdeal.RefHost.host_g m' c, Cert.KernelIdeal.Run.V3_v4 m g c, h3]
  unfold shapeCast
  exact congrArg _ (Subsingleton.elim (α := (a : Fin 0) → Fin _) _ _)

/-- The weight values the reference's kernel reads. -/
def refW : Vec Ideal Cert.ReferenceIdeal.S1536x8960 .bf16 := Cert.ReferenceIdeal.Gen.V m' c Cert.ReferenceIdeal.main_v42

/-- The block scales the reference's kernel reads. -/
def refS : Vec Ideal Cert.ReferenceIdeal.S96x560 .fp8e4m3 := Cert.ReferenceIdeal.Gen.V m' c Cert.ReferenceIdeal.main_arg2

include h1 h2 in
/-- The decoded weight one kernel reads is the other's value times its block scale. -/
theorem weight_arr (k : Fin 8960) (o : Fin 1536) :
    (Cert.KernelIdeal.Gen.V3 m g c Cert.KernelIdeal.main_v2 : Vec Ideal Cert.KernelIdeal.S8960x1536 .bf16) (ix2 k o)
      = refW m' c (ix2 o k)
          * refS m' c (ix2 (⟨o.val / 16, by omega⟩ : Fin 96) (⟨k.val / 16, by omega⟩ : Fin 560)) := by
  unfold refW refS
  rw [Cert.KernelIdeal.Run.V3_v2, Cert.ReferenceIdeal.RefHost.host_w m' c, Cert.ReferenceIdeal.Gen.V_main_arg2 m' c, h1, h2]
  show Cert.KernelIdeal.Arr.weight (Cert.KernelIdeal.Gen.V1 m g c Cert.KernelIdeal.main_v0) (Cert.KernelIdeal.Gen.V1 m g c Cert.KernelIdeal.main_v1) k o = _
  rw [Cert.KernelIdeal.Run.V1_v0, Cert.KernelIdeal.Run.V1_v1]
  exact weight_eq _ _ _ _ k o

include h0 h1 h2 h3 in
/-- The products agree. -/
theorem dx_arr (hp : Cert.Pre_KernelIdeal_dy_is_bf16 m) :
    (Cert.ReferenceIdeal.Gen.dats m' 0 c).arrAt 4 Cert.ReferenceIdeal.cfg0.N = (Cert.KernelIdeal.Gen.dat1 (Cert.KernelIdeal.Gen.V3 m g) c).arrAt 3 Cert.KernelIdeal.cfg1.N := by
  refine (Cert.ReferenceIdeal.Arr.dx_final m' c).trans (Eq.trans ?_ (Cert.KernelIdeal.Arr.dx_final (Cert.KernelIdeal.Gen.V3 m g) c).symm)
  funext i
  obtain ⟨r, o, rfl⟩ : ∃ (r : Fin 12288) (o : Fin 1536), i = ix2 r o := ⟨i 0, i 1, eq_ix2 i⟩
  refine (Cert.ReferenceIdeal.Arr.prod_apply _ _ _ _ r o).trans ?_
  show _ = Cert.KernelIdeal.Arr.prod (Cert.KernelIdeal.Gen.V3 m g c Cert.KernelIdeal.main_v3) (Cert.KernelIdeal.Gen.V3 m g c Cert.KernelIdeal.main_v2)
    ((Cert.KernelIdeal.Gen.V3 m g c Cert.KernelIdeal.main_v4 : Vec Ideal Cert.KernelIdeal.S1 .f32) (ix1 (0 : Fin 1))) r o
  rw [ker_rows, ← global_eq m g m' c h3]
  have hr : (Cert.ReferenceIdeal.Gen.V m' c Cert.ReferenceIdeal.main_v9 : Vec Ideal Cert.ReferenceIdeal.S12288x8960 .bf16) = rows m c := ref_rows m m' c h0
  rw [hr]
  unfold Cert.ReferenceIdeal.Arr.prod Cert.KernelIdeal.Arr.prod
  rw [(scale_eq (rows m c) (rows_range m c hp) r).1]
  have hs : (∑ x : Fin 8960, Cert.KernelIdeal.Arr.code (rows m c) r x * (Cert.KernelIdeal.Gen.V3 m g c Cert.KernelIdeal.main_v2 : Vec Ideal Cert.KernelIdeal.S8960x1536 .bf16) (ix2 x o))
      = ∑ x : Fin 8960, Cert.ReferenceIdeal.Arr.code (rows m c) r x * (refW m' c (ix2 o x)
          * refS m' c (ix2 (⟨o.val / 16, by omega⟩ : Fin 96) (⟨x.val / 16, by omega⟩ : Fin 560))) :=
    Finset.sum_congr rfl fun x _ => by rw [code_eq (rows m c) (rows_range m c hp) r x, weight_arr m g m' c h1 h2 x o]
  rw [hs]
  rfl

end

end Cert.Equation

end
-- ==== Proof.lean ====
/-
  The certificate's claims, assembled: each program runs to the end with its arguments unchanged and every semaphore
  counter at zero; the idealized kernel is the kernel with nothing rewritten; and over the extended reals the kernel's three
  results (the products, the eight-bit codes and the row scales) are the reference's, for every gradient of bfloat16 range.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem

attribute [local instance] Cert.Equation.preFacts

/-- Over the extended reals the kernel's three result arrays are the reference's, the arguments unchanged. -/
theorem algebraic : Cert.algebraic_KernelIdeal_ReferenceIdeal_pre_dy_is_bf16 := by
  intro m g m' g' hp he
  refine ⟨fun c => (Cert.KernelIdeal.Gen.dat1 (Cert.KernelIdeal.Gen.V3 m g) c).arrAt 3 Cert.KernelIdeal.cfg1.N,
    fun c => (Cert.KernelIdeal.Gen.dat1 (Cert.KernelIdeal.Gen.V3 m g) c).arrAt 4 Cert.KernelIdeal.cfg1.N,
    fun c => (Cert.KernelIdeal.Gen.dat1 (Cert.KernelIdeal.Gen.V3 m g) c).arrAt 5 Cert.KernelIdeal.cfg1.N, ?_, ?_⟩
  · exact (θ_run _ _ _).mono (fun r h c => h.1 c) (Cert.KernelIdeal.Run.run m g)
  · refine (θ_run _ _ _).mono (fun r h c => ?_) (Cert.ReferenceIdeal.Value.run_blocks m' g')
    obtain ⟨h0, h1, h2, h3⟩ := he c
    exact ⟨(h c).1.trans (Cert.Equation.dx_arr m g m' c h0 h1 h2 h3 hp), (h c).2.1.trans (Cert.Equation.code_arr m g m' c h0 hp),
      (h c).2.2.1.trans (Cert.Equation.scale_arr m g m' c h0 hp), (h c).2.2.2⟩

/-- Everything the certificate claims. -/
theorem claim : Cert.Claim :=
  ⟨Cert.Kernel.Gen.facts, Cert.KernelIdeal.Gen.facts, Cert.ReferenceIdeal.Gen.facts, Cert.Equation.preFacts,
    fun m g _ => Cert.Kernel.Gen.frame m g,
    fun m g _ => Cert.KernelIdeal.Gen.frame m g,
    fun m g _ => Cert.KernelIdeal.Gen.frame m g,
    fun m g _ => Cert.ReferenceIdeal.Gen.frame m g,
    fun m g _ => Cert.ReferenceIdeal.Gen.frame m g,
    trivial,
    algebraic⟩

end Cert.Proof

end
